-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![4, 1024, 2, 128]⟩ ⟨4, ![4, 32768, 2, 128]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![4, 1024, 2, 128]⟩ ⟨4, ![4, 32768, 2, 128]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v22) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S4x256x1024 : Shape := ⟨3, ![4, 256, 1024]⟩
abbrev S1024x1024 : Shape := ⟨2, ![1024, 1024]⟩
abbrev S4x1024x2x128 : Shape := ⟨4, ![4, 1024, 2, 128]⟩
abbrev S_ : Shape := ⟨0, ![]⟩

class Facts : Prop where
  bcast_S_S4x256x1024 : S_.BroadcastsInDim S4x256x1024 (![] : Fin 0 → Fin S4x256x1024.rank)
  bcast_S_S1024x1024 : S_.BroadcastsInDim S1024x1024 (![] : Fin 0 → Fin S1024x1024.rank)
  bcast_S_S4x1024x2x128 : S_.BroadcastsInDim S4x1024x2x128 (![] : Fin 0 → Fin S4x1024x2x128.rank)

variable [Facts]

def fn {F : FTy → Type} [FloatOps F] (main_arg0 : FVec F S4x256x1024 .f32) (main_arg1 : FVec F S1024x1024 .f32) (main_arg2 : FVec F S4x1024x2x128 .f32) (main_arg3 : FVec F S4x1024x2x128 .f32) (main_arg4 : FVec F S1024x1024 .f32) : IVec S4x256x1024 1 × IVec S1024x1024 1 × IVec S4x1024x2x128 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S4x1024x2x128 .f32 := Host.absf main_arg2
  let main_cst_1 : FVec F S_ .f32 := constant S_ .f32 0x7F800000#32
  let main_v7 : FVec F S4x1024x2x128 .f32 := broadcastInDim S4x1024x2x128 ![] bcast_S_S4x1024x2x128 main_cst_1
  let main_v8 : IVec S4x1024x2x128 1 := cmpf .olt main_v6 main_v7
  (main_v2, main_v5, main_v8)
-- ==== Pre_finite_ReferenceIdeal.lean ====
abbrev S4x256x1024 : Shape := ⟨3, ![4, 256, 1024]⟩
abbrev S1024x1024 : Shape := ⟨2, ![1024, 1024]⟩
abbrev S4x32768x2x128 : Shape := ⟨4, ![4, 32768, 2, 128]⟩
abbrev S_ : Shape := ⟨0, ![]⟩

class Facts : Prop where
  bcast_S_S4x256x1024 : S_.BroadcastsInDim S4x256x1024 (![] : Fin 0 → Fin S4x256x1024.rank)
  bcast_S_S1024x1024 : S_.BroadcastsInDim S1024x1024 (![] : Fin 0 → Fin S1024x1024.rank)
  bcast_S_S4x32768x2x128 : S_.BroadcastsInDim S4x32768x2x128 (![] : Fin 0 → Fin S4x32768x2x128.rank)

variable [Facts]

def fn {F : FTy → Type} [FloatOps F] (main_arg0 : FVec F S4x256x1024 .f32) (main_arg1 : FVec F S1024x1024 .f32) (main_arg2 : FVec F S4x32768x2x128 .f32) (main_arg3 : FVec F S4x32768x2x128 .f32) (main_arg4 : FVec F S1024x1024 .f32) : IVec S4x256x1024 1 × IVec S1024x1024 1 × IVec S4x32768x2x128 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S4x32768x2x128 .f32 := Host.absf main_arg2
  let main_cst_1 : FVec F S_ .f32 := constant S_ .f32 0x7F800000#32
  let main_v7 : FVec F S4x32768x2x128 .f32 := broadcastInDim S4x32768x2x128 ![] bcast_S_S4x32768x2x128 main_cst_1
  let main_v8 : IVec S4x32768x2x128 1 := cmpf .olt main_v6 main_v7
  (main_v2, main_v5, main_v8)
-- ==== Kernel.lean ====
abbrev S4x256x1024 : Shape := ⟨3, ![4, 256, 1024]⟩
abbrev S1024x1024 : Shape := ⟨2, ![1024, 1024]⟩
abbrev S4x1024x2x128 : Shape := ⟨4, ![4, 1024, 2, 128]⟩
abbrev S1024x1152 : Shape := ⟨2, ![1024, 1152]⟩
abbrev S16x32x1152 : Shape := ⟨3, ![16, 32, 1152]⟩
abbrev S15x32x1152 : Shape := ⟨3, ![15, 32, 1152]⟩
abbrev S_ : Shape := ⟨0, ![]⟩
abbrev S16 : Shape := ⟨1, ![16]⟩
abbrev S15 : Shape := ⟨1, ![15]⟩
abbrev S32 : Shape := ⟨1, ![32]⟩
abbrev S1x1024x1x128 : Shape := ⟨4, ![1, 1024, 1, 128]⟩
abbrev S1024x128 : Shape := ⟨2, ![1024, 128]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x32x1152 : Shape := ⟨3, ![1, 32, 1152]⟩
abbrev S32x1152 : Shape := ⟨2, ![32, 1152]⟩
abbrev S32x8 : Shape := ⟨2, ![32, 8]⟩
abbrev S32x1024 : Shape := ⟨2, ![32, 1024]⟩
abbrev S32x128 : Shape := ⟨2, ![32, 128]⟩
abbrev S32x1 : Shape := ⟨2, ![32, 1]⟩

abbrev nBuf : Space → Nat
  | .hbm => 6
  | .vmem => 9
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S4x1024x2x128, .f32⟩
  | .hbm, ⟨3, _⟩ => ⟨S4x1024x2x128, .f32⟩
  | .hbm, ⟨4, _⟩ => ⟨S1024x1024, .f32⟩
  | .hbm, ⟨5, _⟩ => ⟨S1024x1024, .f32⟩
  | .local _ .vmem, ⟨0, _⟩ => ⟨S4x256x1024, .f32⟩
  | .local _ .vmem, ⟨1, _⟩ => ⟨S1024x1024, .f32⟩
  | .local _ .vmem, ⟨2, _⟩ => ⟨S1024x1024, .f32⟩
  | .local _ .vmem, ⟨3, _⟩ => ⟨S4x1024x2x128, .f32⟩
  | .local _ .vmem, ⟨4, _⟩ => ⟨S4x1024x2x128, .f32⟩
  | .local _ .vmem, ⟨5, _⟩ => ⟨S1024x1024, .f32⟩
  | .local _ .vmem, ⟨6, _⟩ => ⟨S1024x1152, .f32⟩
  | .local _ .vmem, ⟨7, _⟩ => ⟨S16x32x1152, .f32⟩
  | .local _ .vmem, ⟨8, _⟩ => ⟨S15x32x1152, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 103 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | _ => false

abbrev sig : RefSig :=
  (ofTc nBuf bufTy 1 103 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_382 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v614 : BitVec 32 := Scalar.addi v2 c16_i32
  let v615 : BitVec 32 := Scalar.subi v614 c0_i32_382
  let c32_i32_383 : BitVec 32 := 32#32
  let v616 : BitVec 32 := Scalar.remsi v615 c32_i32_383
  let c32_i32_384 : BitVec 32 := 32#32
  let v617 : BitVec 32 := Scalar.muli v616 c32_i32_384
  let c0_i32_391 : BitVec 32 := 0#32
  ![v617.toNat, 0]
def k0_dev3 (d0 : Dev nD) : Nat :=
  let c0_i32_388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_387 : BitVec 32 := 1#32
  let v618 : BitVec 32 := Scalar.muli v7 c1_i32_387
  let v619 : BitVec 32 := Scalar.addi c0_i32_388 v618
  v619.toNat
def k0_off2 (d0 : Dev nD) (c0_i32_392 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v625 : BitVec 32 := Scalar.subi v2 c15_i32
  let v626 : BitVec 32 := Scalar.addi v625 c0_i32_392
  let c32_i32_393 : BitVec 32 := 32#32
  let v627 : BitVec 32 := Scalar.addi v626 c32_i32_393
  let c32_i32_394 : BitVec 32 := 32#32
  let v628 : BitVec 32 := Scalar.remsi v627 c32_i32_394
  let c32_i32_395 : BitVec 32 := 32#32
  let v629 : BitVec 32 := Scalar.muli v628 c32_i32_395
  let c0_i32_402 : BitVec 32 := 0#32
  ![v629.toNat, 0]
def k0_dev4 (d0 : Dev nD) : Nat :=
  let c0_i32_399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_398 : BitVec 32 := 1#32
  let v630 : BitVec 32 := Scalar.muli v5 c1_i32_398
  let v631 : BitVec 32 := Scalar.addi c0_i32_399 v630
  v631.toNat
def k0_off3 (d0 : Dev nD) (c0_i32_419 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_417 : BitVec 32 := 16#32
  let v651 : BitVec 32 := Scalar.addi v2 c16_i32_417
  let c1_i32_418 : BitVec 32 := 1#32
  let v652 : BitVec 32 := Scalar.subi v651 c1_i32_418
  let v653 : BitVec 32 := Scalar.subi v652 c0_i32_419
  let c32_i32_420 : BitVec 32 := 32#32
  let v654 : BitVec 32 := Scalar.addi v653 c32_i32_420
  let c32_i32_421 : BitVec 32 := 32#32
  let v655 : BitVec 32 := Scalar.remsi v654 c32_i32_421
  let c32_i32_422 : BitVec 32 := 32#32
  let v656 : BitVec 32 := Scalar.muli v655 c32_i32_422
  let v657 : Index := Scalar.indexCast v656
  let c0_423 : Index := 0#32
  ![v657.toNat, 0]
def k0_off4 (d0 : Dev nD) (c0_i32_430 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_428 : BitVec 32 := 15#32
  let v666 : BitVec 32 := Scalar.subi v2 c15_i32_428
  let c1_i32_429 : BitVec 32 := 1#32
  let v667 : BitVec 32 := Scalar.addi v666 c1_i32_429
  let v668 : BitVec 32 := Scalar.addi v667 c0_i32_430
  let c32_i32_431 : BitVec 32 := 32#32
  let v669 : BitVec 32 := Scalar.addi v668 c32_i32_431
  let c32_i32_432 : BitVec 32 := 32#32
  let v670 : BitVec 32 := Scalar.remsi v669 c32_i32_432
  let c32_i32_433 : BitVec 32 := 32#32
  let v671 : BitVec 32 := Scalar.muli v670 c32_i32_433
  let v672 : Index := Scalar.indexCast v671
  let c0_434 : Index := 0#32
  ![v672.toNat, 0]
def k0_dev5 (d0 : Dev nD) : Nat :=
  let c0_i32_458 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_457 : BitVec 32 := 1#32
  let v691 : BitVec 32 := Scalar.muli v7 c1_i32_457
  let v692 : BitVec 32 := Scalar.addi c0_i32_458 v691
  v692.toNat
def k0_dev6 (d0 : Dev nD) : Nat :=
  let c0_i32_470 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_469 : BitVec 32 := 1#32
  let v703 : BitVec 32 := Scalar.muli v5 c1_i32_469
  let v704 : BitVec 32 := Scalar.addi c0_i32_470 v703
  v704.toNat
def k0_dev7 (d0 : Dev nD) : Nat :=
  let c0_i32_529 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_528 : BitVec 32 := 1#32
  let v764 : BitVec 32 := Scalar.muli v7 c1_i32_528
  let v765 : BitVec 32 := Scalar.addi c0_i32_529 v764
  v765.toNat
def k0_dev8 (d0 : Dev nD) : Nat :=
  let c0_i32_541 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_540 : BitVec 32 := 1#32
  let v776 : BitVec 32 := Scalar.muli v5 c1_i32_540
  let v777 : BitVec 32 := Scalar.addi c0_i32_541 v776
  v777.toNat
def k0_dev9 (d0 : Dev nD) : Nat :=
  let c0_i32_599 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_598 : BitVec 32 := 1#32
  let v837 : BitVec 32 := Scalar.muli v7 c1_i32_598
  let v838 : BitVec 32 := Scalar.addi c0_i32_599 v837
  v838.toNat
def k0_dev10 (d0 : Dev nD) : Nat :=
  let c0_i32_611 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_610 : BitVec 32 := 1#32
  let v849 : BitVec 32 := Scalar.muli v5 c1_i32_610
  let v850 : BitVec 32 := Scalar.addi c0_i32_611 v849
  v850.toNat
def k0_dev11 (d0 : Dev nD) : Nat :=
  let c0_i32_669 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_668 : BitVec 32 := 1#32
  let v910 : BitVec 32 := Scalar.muli v7 c1_i32_668
  let v911 : BitVec 32 := Scalar.addi c0_i32_669 v910
  v911.toNat
def k0_dev12 (d0 : Dev nD) : Nat :=
  let c0_i32_681 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_680 : BitVec 32 := 1#32
  let v922 : BitVec 32 := Scalar.muli v5 c1_i32_680
  let v923 : BitVec 32 := Scalar.addi c0_i32_681 v922
  v923.toNat
def k0_dev13 (d0 : Dev nD) : Nat :=
  let c0_i32_738 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_737 : BitVec 32 := 1#32
  let v983 : BitVec 32 := Scalar.muli v7 c1_i32_737
  let v984 : BitVec 32 := Scalar.addi c0_i32_738 v983
  v984.toNat
def k0_dev14 (d0 : Dev nD) : Nat :=
  let c0_i32_750 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_749 : BitVec 32 := 1#32
  let v995 : BitVec 32 := Scalar.muli v5 c1_i32_749
  let v996 : BitVec 32 := Scalar.addi c0_i32_750 v995
  v996.toNat
def k0_dev15 (d0 : Dev nD) : Nat :=
  let c0_i32_807 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_806 : BitVec 32 := 1#32
  let v1056 : BitVec 32 := Scalar.muli v7 c1_i32_806
  let v1057 : BitVec 32 := Scalar.addi c0_i32_807 v1056
  v1057.toNat
def k0_dev16 (d0 : Dev nD) : Nat :=
  let c0_i32_819 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_818 : BitVec 32 := 1#32
  let v1068 : BitVec 32 := Scalar.muli v5 c1_i32_818
  let v1069 : BitVec 32 := Scalar.addi c0_i32_819 v1068
  v1069.toNat
def k0_dev17 (d0 : Dev nD) : Nat :=
  let c0_i32_876 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_875 : BitVec 32 := 1#32
  let v1129 : BitVec 32 := Scalar.muli v7 c1_i32_875
  let v1130 : BitVec 32 := Scalar.addi c0_i32_876 v1129
  v1130.toNat
def k0_dev18 (d0 : Dev nD) : Nat :=
  let c0_i32_888 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_887 : BitVec 32 := 1#32
  let v1141 : BitVec 32 := Scalar.muli v5 c1_i32_887
  let v1142 : BitVec 32 := Scalar.addi c0_i32_888 v1141
  v1142.toNat
def k0_dev19 (d0 : Dev nD) : Nat :=
  let c0_i32_945 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_944 : BitVec 32 := 1#32
  let v1202 : BitVec 32 := Scalar.muli v7 c1_i32_944
  let v1203 : BitVec 32 := Scalar.addi c0_i32_945 v1202
  v1203.toNat
def k0_dev20 (d0 : Dev nD) : Nat :=
  let c0_i32_957 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_956 : BitVec 32 := 1#32
  let v1214 : BitVec 32 := Scalar.muli v5 c1_i32_956
  let v1215 : BitVec 32 := Scalar.addi c0_i32_957 v1214
  v1215.toNat
def k0_dev21 (d0 : Dev nD) : Nat :=
  let c0_i32_1014 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1013 : BitVec 32 := 1#32
  let v1275 : BitVec 32 := Scalar.muli v7 c1_i32_1013
  let v1276 : BitVec 32 := Scalar.addi c0_i32_1014 v1275
  v1276.toNat
def k0_dev22 (d0 : Dev nD) : Nat :=
  let c0_i32_1026 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1025 : BitVec 32 := 1#32
  let v1287 : BitVec 32 := Scalar.muli v5 c1_i32_1025
  let v1288 : BitVec 32 := Scalar.addi c0_i32_1026 v1287
  v1288.toNat
def k0_dev23 (d0 : Dev nD) : Nat :=
  let c0_i32_1083 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1082 : BitVec 32 := 1#32
  let v1348 : BitVec 32 := Scalar.muli v7 c1_i32_1082
  let v1349 : BitVec 32 := Scalar.addi c0_i32_1083 v1348
  v1349.toNat
def k0_dev24 (d0 : Dev nD) : Nat :=
  let c0_i32_1095 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1094 : BitVec 32 := 1#32
  let v1360 : BitVec 32 := Scalar.muli v5 c1_i32_1094
  let v1361 : BitVec 32 := Scalar.addi c0_i32_1095 v1360
  v1361.toNat
def k0_dev25 (d0 : Dev nD) : Nat :=
  let c0_i32_1152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1151 : BitVec 32 := 1#32
  let v1421 : BitVec 32 := Scalar.muli v7 c1_i32_1151
  let v1422 : BitVec 32 := Scalar.addi c0_i32_1152 v1421
  v1422.toNat
def k0_dev26 (d0 : Dev nD) : Nat :=
  let c0_i32_1164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1163 : BitVec 32 := 1#32
  let v1433 : BitVec 32 := Scalar.muli v5 c1_i32_1163
  let v1434 : BitVec 32 := Scalar.addi c0_i32_1164 v1433
  v1434.toNat
def k0_dev27 (d0 : Dev nD) : Nat :=
  let c0_i32_1221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1220 : BitVec 32 := 1#32
  let v1494 : BitVec 32 := Scalar.muli v7 c1_i32_1220
  let v1495 : BitVec 32 := Scalar.addi c0_i32_1221 v1494
  v1495.toNat
def k0_dev28 (d0 : Dev nD) : Nat :=
  let c0_i32_1233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1232 : BitVec 32 := 1#32
  let v1506 : BitVec 32 := Scalar.muli v5 c1_i32_1232
  let v1507 : BitVec 32 := Scalar.addi c0_i32_1233 v1506
  v1507.toNat
def k0_dev29 (d0 : Dev nD) : Nat :=
  let c0_i32_1290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1289 : BitVec 32 := 1#32
  let v1567 : BitVec 32 := Scalar.muli v7 c1_i32_1289
  let v1568 : BitVec 32 := Scalar.addi c0_i32_1290 v1567
  v1568.toNat
def k0_dev30 (d0 : Dev nD) : Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1301 : BitVec 32 := 1#32
  let v1579 : BitVec 32 := Scalar.muli v5 c1_i32_1301
  let v1580 : BitVec 32 := Scalar.addi c0_i32_1302 v1579
  v1580.toNat
def k0_dev31 (d0 : Dev nD) : Nat :=
  let c0_i32_1359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1358 : BitVec 32 := 1#32
  let v1640 : BitVec 32 := Scalar.muli v7 c1_i32_1358
  let v1641 : BitVec 32 := Scalar.addi c0_i32_1359 v1640
  v1641.toNat
def k0_dev32 (d0 : Dev nD) : Nat :=
  let c0_i32_1371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1370 : BitVec 32 := 1#32
  let v1652 : BitVec 32 := Scalar.muli v5 c1_i32_1370
  let v1653 : BitVec 32 := Scalar.addi c0_i32_1371 v1652
  v1653.toNat
def k0_dev33 (d0 : Dev nD) : Nat :=
  let c0_i32_1429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1428 : BitVec 32 := 1#32
  let v1713 : BitVec 32 := Scalar.muli v7 c1_i32_1428
  let v1714 : BitVec 32 := Scalar.addi c0_i32_1429 v1713
  v1714.toNat
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_1456 : BitVec 32 := 32#32
  let v1745 : BitVec 32 := Scalar.muli v2 c32_i32_1456
  let v1746 : Index := Scalar.indexCast v1745
  let c1024_1457 : Index := 1024#32
  ![v1746.toNat, 1024]
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_1456 : BitVec 32 := 32#32
  let v1745 : BitVec 32 := Scalar.muli v2 c32_i32_1456
  let v1750 : Index := Scalar.indexCast v1745
  let c0_1459 : Index := 0#32
  ![v1750.toNat, 0]
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_1456 : BitVec 32 := 32#32
  let v1745 : BitVec 32 := Scalar.muli v2 c32_i32_1456
  let v1790 : Index := Scalar.indexCast v1745
  let c0_1463 : Index := 0#32
  ![v1790.toNat, 0]
def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_1456 : BitVec 32 := 32#32
  let v1745 : BitVec 32 := Scalar.muli v2 c32_i32_1456
  let c0_i32_1469 : BitVec 32 := 0#32
  ![v1745.toNat, 0]
def k0_dev34 (d0 : Dev nD) : Nat :=
  let c0_i32_1468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1464 : BitVec 32 := 1#32
  let v1792 : BitVec 32 := Scalar.addi v2 c1_i32_1464
  let c32_i32_1465 : BitVec 32 := 32#32
  let v1793 : BitVec 32 := Scalar.remsi v1792 c32_i32_1465
  let c1_i32_1467 : BitVec 32 := 1#32
  let v1794 : BitVec 32 := Scalar.muli v1793 c1_i32_1467
  let v1795 : BitVec 32 := Scalar.addi c0_i32_1468 v1794
  v1795.toNat
def k0_dev35 (d0 : Dev nD) : Nat :=
  let c0_i32_1475 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1471 : BitVec 32 := 2#32
  let v1802 : BitVec 32 := Scalar.addi v2 c2_i32_1471
  let c32_i32_1472 : BitVec 32 := 32#32
  let v1803 : BitVec 32 := Scalar.remsi v1802 c32_i32_1472
  let c1_i32_1474 : BitVec 32 := 1#32
  let v1804 : BitVec 32 := Scalar.muli v1803 c1_i32_1474
  let v1805 : BitVec 32 := Scalar.addi c0_i32_1475 v1804
  v1805.toNat
def k0_dev36 (d0 : Dev nD) : Nat :=
  let c0_i32_1482 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1478 : BitVec 32 := 3#32
  let v1812 : BitVec 32 := Scalar.addi v2 c3_i32_1478
  let c32_i32_1479 : BitVec 32 := 32#32
  let v1813 : BitVec 32 := Scalar.remsi v1812 c32_i32_1479
  let c1_i32_1481 : BitVec 32 := 1#32
  let v1814 : BitVec 32 := Scalar.muli v1813 c1_i32_1481
  let v1815 : BitVec 32 := Scalar.addi c0_i32_1482 v1814
  v1815.toNat
def k0_dev37 (d0 : Dev nD) : Nat :=
  let c0_i32_1489 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1485 : BitVec 32 := 4#32
  let v1822 : BitVec 32 := Scalar.addi v2 c4_i32_1485
  let c32_i32_1486 : BitVec 32 := 32#32
  let v1823 : BitVec 32 := Scalar.remsi v1822 c32_i32_1486
  let c1_i32_1488 : BitVec 32 := 1#32
  let v1824 : BitVec 32 := Scalar.muli v1823 c1_i32_1488
  let v1825 : BitVec 32 := Scalar.addi c0_i32_1489 v1824
  v1825.toNat
def k0_dev38 (d0 : Dev nD) : Nat :=
  let c0_i32_1496 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1492 : BitVec 32 := 5#32
  let v1832 : BitVec 32 := Scalar.addi v2 c5_i32_1492
  let c32_i32_1493 : BitVec 32 := 32#32
  let v1833 : BitVec 32 := Scalar.remsi v1832 c32_i32_1493
  let c1_i32_1495 : BitVec 32 := 1#32
  let v1834 : BitVec 32 := Scalar.muli v1833 c1_i32_1495
  let v1835 : BitVec 32 := Scalar.addi c0_i32_1496 v1834
  v1835.toNat
def k0_dev39 (d0 : Dev nD) : Nat :=
  let c0_i32_1503 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1499 : BitVec 32 := 6#32
  let v1842 : BitVec 32 := Scalar.addi v2 c6_i32_1499
  let c32_i32_1500 : BitVec 32 := 32#32
  let v1843 : BitVec 32 := Scalar.remsi v1842 c32_i32_1500
  let c1_i32_1502 : BitVec 32 := 1#32
  let v1844 : BitVec 32 := Scalar.muli v1843 c1_i32_1502
  let v1845 : BitVec 32 := Scalar.addi c0_i32_1503 v1844
  v1845.toNat
def k0_dev40 (d0 : Dev nD) : Nat :=
  let c0_i32_1510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1506 : BitVec 32 := 7#32
  let v1852 : BitVec 32 := Scalar.addi v2 c7_i32_1506
  let c32_i32_1507 : BitVec 32 := 32#32
  let v1853 : BitVec 32 := Scalar.remsi v1852 c32_i32_1507
  let c1_i32_1509 : BitVec 32 := 1#32
  let v1854 : BitVec 32 := Scalar.muli v1853 c1_i32_1509
  let v1855 : BitVec 32 := Scalar.addi c0_i32_1510 v1854
  v1855.toNat
def k0_dev41 (d0 : Dev nD) : Nat :=
  let c0_i32_1517 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1513 : BitVec 32 := 8#32
  let v1862 : BitVec 32 := Scalar.addi v2 c8_i32_1513
  let c32_i32_1514 : BitVec 32 := 32#32
  let v1863 : BitVec 32 := Scalar.remsi v1862 c32_i32_1514
  let c1_i32_1516 : BitVec 32 := 1#32
  let v1864 : BitVec 32 := Scalar.muli v1863 c1_i32_1516
  let v1865 : BitVec 32 := Scalar.addi c0_i32_1517 v1864
  v1865.toNat
def k0_dev42 (d0 : Dev nD) : Nat :=
  let c0_i32_1524 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1520 : BitVec 32 := 9#32
  let v1872 : BitVec 32 := Scalar.addi v2 c9_i32_1520
  let c32_i32_1521 : BitVec 32 := 32#32
  let v1873 : BitVec 32 := Scalar.remsi v1872 c32_i32_1521
  let c1_i32_1523 : BitVec 32 := 1#32
  let v1874 : BitVec 32 := Scalar.muli v1873 c1_i32_1523
  let v1875 : BitVec 32 := Scalar.addi c0_i32_1524 v1874
  v1875.toNat
def k0_dev43 (d0 : Dev nD) : Nat :=
  let c0_i32_1531 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1527 : BitVec 32 := 10#32
  let v1882 : BitVec 32 := Scalar.addi v2 c10_i32_1527
  let c32_i32_1528 : BitVec 32 := 32#32
  let v1883 : BitVec 32 := Scalar.remsi v1882 c32_i32_1528
  let c1_i32_1530 : BitVec 32 := 1#32
  let v1884 : BitVec 32 := Scalar.muli v1883 c1_i32_1530
  let v1885 : BitVec 32 := Scalar.addi c0_i32_1531 v1884
  v1885.toNat
def k0_dev44 (d0 : Dev nD) : Nat :=
  let c0_i32_1538 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1534 : BitVec 32 := 11#32
  let v1892 : BitVec 32 := Scalar.addi v2 c11_i32_1534
  let c32_i32_1535 : BitVec 32 := 32#32
  let v1893 : BitVec 32 := Scalar.remsi v1892 c32_i32_1535
  let c1_i32_1537 : BitVec 32 := 1#32
  let v1894 : BitVec 32 := Scalar.muli v1893 c1_i32_1537
  let v1895 : BitVec 32 := Scalar.addi c0_i32_1538 v1894
  v1895.toNat
def k0_dev45 (d0 : Dev nD) : Nat :=
  let c0_i32_1545 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1541 : BitVec 32 := 12#32
  let v1902 : BitVec 32 := Scalar.addi v2 c12_i32_1541
  let c32_i32_1542 : BitVec 32 := 32#32
  let v1903 : BitVec 32 := Scalar.remsi v1902 c32_i32_1542
  let c1_i32_1544 : BitVec 32 := 1#32
  let v1904 : BitVec 32 := Scalar.muli v1903 c1_i32_1544
  let v1905 : BitVec 32 := Scalar.addi c0_i32_1545 v1904
  v1905.toNat
def k0_dev46 (d0 : Dev nD) : Nat :=
  let c0_i32_1552 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1548 : BitVec 32 := 13#32
  let v1912 : BitVec 32 := Scalar.addi v2 c13_i32_1548
  let c32_i32_1549 : BitVec 32 := 32#32
  let v1913 : BitVec 32 := Scalar.remsi v1912 c32_i32_1549
  let c1_i32_1551 : BitVec 32 := 1#32
  let v1914 : BitVec 32 := Scalar.muli v1913 c1_i32_1551
  let v1915 : BitVec 32 := Scalar.addi c0_i32_1552 v1914
  v1915.toNat
def k0_dev47 (d0 : Dev nD) : Nat :=
  let c0_i32_1559 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1555 : BitVec 32 := 14#32
  let v1922 : BitVec 32 := Scalar.addi v2 c14_i32_1555
  let c32_i32_1556 : BitVec 32 := 32#32
  let v1923 : BitVec 32 := Scalar.remsi v1922 c32_i32_1556
  let c1_i32_1558 : BitVec 32 := 1#32
  let v1924 : BitVec 32 := Scalar.muli v1923 c1_i32_1558
  let v1925 : BitVec 32 := Scalar.addi c0_i32_1559 v1924
  v1925.toNat
def k0_dev48 (d0 : Dev nD) : Nat :=
  let c0_i32_1566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1562 : BitVec 32 := 15#32
  let v1932 : BitVec 32 := Scalar.addi v2 c15_i32_1562
  let c32_i32_1563 : BitVec 32 := 32#32
  let v1933 : BitVec 32 := Scalar.remsi v1932 c32_i32_1563
  let c1_i32_1565 : BitVec 32 := 1#32
  let v1934 : BitVec 32 := Scalar.muli v1933 c1_i32_1565
  let v1935 : BitVec 32 := Scalar.addi c0_i32_1566 v1934
  v1935.toNat
def k0_dev49 (d0 : Dev nD) : Nat :=
  let c0_i32_1574 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1569 : BitVec 32 := 16#32
  let v1942 : BitVec 32 := Scalar.addi v2 c16_i32_1569
  let c32_i32_1570 : BitVec 32 := 32#32
  let v1943 : BitVec 32 := Scalar.remsi v1942 c32_i32_1570
  let c1_i32_1573 : BitVec 32 := 1#32
  let v1944 : BitVec 32 := Scalar.muli v1943 c1_i32_1573
  let v1945 : BitVec 32 := Scalar.addi c0_i32_1574 v1944
  v1945.toNat
def k0_dev50 (d0 : Dev nD) : Nat :=
  let c0_i32_1582 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1577 : BitVec 32 := 17#32
  let v1952 : BitVec 32 := Scalar.addi v2 c17_i32_1577
  let c32_i32_1578 : BitVec 32 := 32#32
  let v1953 : BitVec 32 := Scalar.remsi v1952 c32_i32_1578
  let c1_i32_1581 : BitVec 32 := 1#32
  let v1954 : BitVec 32 := Scalar.muli v1953 c1_i32_1581
  let v1955 : BitVec 32 := Scalar.addi c0_i32_1582 v1954
  v1955.toNat
def k0_dev51 (d0 : Dev nD) : Nat :=
  let c0_i32_1590 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1585 : BitVec 32 := 18#32
  let v1962 : BitVec 32 := Scalar.addi v2 c18_i32_1585
  let c32_i32_1586 : BitVec 32 := 32#32
  let v1963 : BitVec 32 := Scalar.remsi v1962 c32_i32_1586
  let c1_i32_1589 : BitVec 32 := 1#32
  let v1964 : BitVec 32 := Scalar.muli v1963 c1_i32_1589
  let v1965 : BitVec 32 := Scalar.addi c0_i32_1590 v1964
  v1965.toNat
def k0_dev52 (d0 : Dev nD) : Nat :=
  let c0_i32_1598 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1593 : BitVec 32 := 19#32
  let v1972 : BitVec 32 := Scalar.addi v2 c19_i32_1593
  let c32_i32_1594 : BitVec 32 := 32#32
  let v1973 : BitVec 32 := Scalar.remsi v1972 c32_i32_1594
  let c1_i32_1597 : BitVec 32 := 1#32
  let v1974 : BitVec 32 := Scalar.muli v1973 c1_i32_1597
  let v1975 : BitVec 32 := Scalar.addi c0_i32_1598 v1974
  v1975.toNat
def k0_dev53 (d0 : Dev nD) : Nat :=
  let c0_i32_1606 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1601 : BitVec 32 := 20#32
  let v1982 : BitVec 32 := Scalar.addi v2 c20_i32_1601
  let c32_i32_1602 : BitVec 32 := 32#32
  let v1983 : BitVec 32 := Scalar.remsi v1982 c32_i32_1602
  let c1_i32_1605 : BitVec 32 := 1#32
  let v1984 : BitVec 32 := Scalar.muli v1983 c1_i32_1605
  let v1985 : BitVec 32 := Scalar.addi c0_i32_1606 v1984
  v1985.toNat
def k0_dev54 (d0 : Dev nD) : Nat :=
  let c0_i32_1614 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1609 : BitVec 32 := 21#32
  let v1992 : BitVec 32 := Scalar.addi v2 c21_i32_1609
  let c32_i32_1610 : BitVec 32 := 32#32
  let v1993 : BitVec 32 := Scalar.remsi v1992 c32_i32_1610
  let c1_i32_1613 : BitVec 32 := 1#32
  let v1994 : BitVec 32 := Scalar.muli v1993 c1_i32_1613
  let v1995 : BitVec 32 := Scalar.addi c0_i32_1614 v1994
  v1995.toNat
def k0_dev55 (d0 : Dev nD) : Nat :=
  let c0_i32_1622 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1617 : BitVec 32 := 22#32
  let v2002 : BitVec 32 := Scalar.addi v2 c22_i32_1617
  let c32_i32_1618 : BitVec 32 := 32#32
  let v2003 : BitVec 32 := Scalar.remsi v2002 c32_i32_1618
  let c1_i32_1621 : BitVec 32 := 1#32
  let v2004 : BitVec 32 := Scalar.muli v2003 c1_i32_1621
  let v2005 : BitVec 32 := Scalar.addi c0_i32_1622 v2004
  v2005.toNat
def k0_dev56 (d0 : Dev nD) : Nat :=
  let c0_i32_1630 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1625 : BitVec 32 := 23#32
  let v2012 : BitVec 32 := Scalar.addi v2 c23_i32_1625
  let c32_i32_1626 : BitVec 32 := 32#32
  let v2013 : BitVec 32 := Scalar.remsi v2012 c32_i32_1626
  let c1_i32_1629 : BitVec 32 := 1#32
  let v2014 : BitVec 32 := Scalar.muli v2013 c1_i32_1629
  let v2015 : BitVec 32 := Scalar.addi c0_i32_1630 v2014
  v2015.toNat
def k0_dev57 (d0 : Dev nD) : Nat :=
  let c0_i32_1638 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1633 : BitVec 32 := 24#32
  let v2022 : BitVec 32 := Scalar.addi v2 c24_i32_1633
  let c32_i32_1634 : BitVec 32 := 32#32
  let v2023 : BitVec 32 := Scalar.remsi v2022 c32_i32_1634
  let c1_i32_1637 : BitVec 32 := 1#32
  let v2024 : BitVec 32 := Scalar.muli v2023 c1_i32_1637
  let v2025 : BitVec 32 := Scalar.addi c0_i32_1638 v2024
  v2025.toNat
def k0_dev58 (d0 : Dev nD) : Nat :=
  let c0_i32_1646 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1641 : BitVec 32 := 25#32
  let v2032 : BitVec 32 := Scalar.addi v2 c25_i32_1641
  let c32_i32_1642 : BitVec 32 := 32#32
  let v2033 : BitVec 32 := Scalar.remsi v2032 c32_i32_1642
  let c1_i32_1645 : BitVec 32 := 1#32
  let v2034 : BitVec 32 := Scalar.muli v2033 c1_i32_1645
  let v2035 : BitVec 32 := Scalar.addi c0_i32_1646 v2034
  v2035.toNat
def k0_dev59 (d0 : Dev nD) : Nat :=
  let c0_i32_1654 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1649 : BitVec 32 := 26#32
  let v2042 : BitVec 32 := Scalar.addi v2 c26_i32_1649
  let c32_i32_1650 : BitVec 32 := 32#32
  let v2043 : BitVec 32 := Scalar.remsi v2042 c32_i32_1650
  let c1_i32_1653 : BitVec 32 := 1#32
  let v2044 : BitVec 32 := Scalar.muli v2043 c1_i32_1653
  let v2045 : BitVec 32 := Scalar.addi c0_i32_1654 v2044
  v2045.toNat
def k0_dev60 (d0 : Dev nD) : Nat :=
  let c0_i32_1662 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1657 : BitVec 32 := 27#32
  let v2052 : BitVec 32 := Scalar.addi v2 c27_i32_1657
  let c32_i32_1658 : BitVec 32 := 32#32
  let v2053 : BitVec 32 := Scalar.remsi v2052 c32_i32_1658
  let c1_i32_1661 : BitVec 32 := 1#32
  let v2054 : BitVec 32 := Scalar.muli v2053 c1_i32_1661
  let v2055 : BitVec 32 := Scalar.addi c0_i32_1662 v2054
  v2055.toNat
def k0_dev61 (d0 : Dev nD) : Nat :=
  let c0_i32_1670 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1665 : BitVec 32 := 28#32
  let v2062 : BitVec 32 := Scalar.addi v2 c28_i32_1665
  let c32_i32_1666 : BitVec 32 := 32#32
  let v2063 : BitVec 32 := Scalar.remsi v2062 c32_i32_1666
  let c1_i32_1669 : BitVec 32 := 1#32
  let v2064 : BitVec 32 := Scalar.muli v2063 c1_i32_1669
  let v2065 : BitVec 32 := Scalar.addi c0_i32_1670 v2064
  v2065.toNat
def k0_dev62 (d0 : Dev nD) : Nat :=
  let c0_i32_1678 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1673 : BitVec 32 := 29#32
  let v2072 : BitVec 32 := Scalar.addi v2 c29_i32_1673
  let c32_i32_1674 : BitVec 32 := 32#32
  let v2073 : BitVec 32 := Scalar.remsi v2072 c32_i32_1674
  let c1_i32_1677 : BitVec 32 := 1#32
  let v2074 : BitVec 32 := Scalar.muli v2073 c1_i32_1677
  let v2075 : BitVec 32 := Scalar.addi c0_i32_1678 v2074
  v2075.toNat
def k0_dev63 (d0 : Dev nD) : Nat :=
  let c0_i32_1686 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1681 : BitVec 32 := 30#32
  let v2082 : BitVec 32 := Scalar.addi v2 c30_i32_1681
  let c32_i32_1682 : BitVec 32 := 32#32
  let v2083 : BitVec 32 := Scalar.remsi v2082 c32_i32_1682
  let c1_i32_1685 : BitVec 32 := 1#32
  let v2084 : BitVec 32 := Scalar.muli v2083 c1_i32_1685
  let v2085 : BitVec 32 := Scalar.addi c0_i32_1686 v2084
  v2085.toNat
def k0_dev64 (d0 : Dev nD) : Nat :=
  let c0_i32_1694 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1689 : BitVec 32 := 31#32
  let v2092 : BitVec 32 := Scalar.addi v2 c31_i32_1689
  let c32_i32_1690 : BitVec 32 := 32#32
  let v2093 : BitVec 32 := Scalar.remsi v2092 c32_i32_1690
  let c1_i32_1693 : BitVec 32 := 1#32
  let v2094 : BitVec 32 := Scalar.muli v2093 c1_i32_1693
  let v2095 : BitVec 32 := Scalar.addi c0_i32_1694 v2094
  v2095.toNat
def k0_off9 (d0 : Dev nD) (c1_i32_1697 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2102 : BitVec 32 := Scalar.addi v2 c1_i32_1697
  let c32_i32_1698 : BitVec 32 := 32#32
  let v2103 : BitVec 32 := Scalar.remsi v2102 c32_i32_1698
  let c32_i32_1699 : BitVec 32 := 32#32
  let v2104 : BitVec 32 := Scalar.muli v2103 c32_i32_1699
  let c0_i32_1704 : BitVec 32 := 0#32
  ![v2104.toNat, 0]
abbrev stage0_0 : Fin 1 → Memref sig .tc .vmem S4x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1024x2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1024x2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4x256x1024 : Shape := ⟨3, ![4, 256, 1024]⟩
abbrev S1024x1024 : Shape := ⟨2, ![1024, 1024]⟩
abbrev S4x32768x2x128 : Shape := ⟨4, ![4, 32768, 2, 128]⟩
abbrev S4x256x8x128 : Shape := ⟨4, ![4, 256, 8, 128]⟩
abbrev S4x32768x2x4x128 : Shape := ⟨5, ![4, 32768, 2, 4, 128]⟩
abbrev S4x32768x8x128 : Shape := ⟨4, ![4, 32768, 8, 128]⟩
abbrev S4x8x256x32768 : Shape := ⟨4, ![4, 8, 256, 32768]⟩
abbrev S_ : Shape := ⟨0, ![]⟩
abbrev S4x8x256 : Shape := ⟨3, ![4, 8, 256]⟩
abbrev S4x8x256x1 : Shape := ⟨4, ![4, 8, 256, 1]⟩
abbrev S4x8x128x256 : Shape := ⟨4, ![4, 8, 128, 256]⟩
abbrev S4x256x8x1 : Shape := ⟨4, ![4, 256, 8, 1]⟩

abbrev nBuf : Space → Nat
  | .hbm => 31
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S4x32768x2x128, .f32⟩
  | .hbm, ⟨3, _⟩ => ⟨S4x32768x2x128, .f32⟩
  | .hbm, ⟨4, _⟩ => ⟨S1024x1024, .f32⟩
  | .hbm, ⟨5, _⟩ => ⟨S4x256x1024, .f32⟩
  | .hbm, ⟨6, _⟩ => ⟨S4x256x8x128, .f32⟩
  | .hbm, ⟨7, _⟩ => ⟨S4x32768x2x4x128, .f32⟩
  | .hbm, ⟨8, _⟩ => ⟨S4x32768x8x128, .f32⟩
  | .hbm, ⟨9, _⟩ => ⟨S4x32768x2x4x128, .f32⟩
  | .hbm, ⟨10, _⟩ => ⟨S4x32768x8x128, .f32⟩
  | .hbm, ⟨11, _⟩ => ⟨S4x8x256x32768, .f32⟩
  | .hbm, ⟨12, _⟩ => ⟨S_, .f32⟩
  | .hbm, ⟨13, _⟩ => ⟨S4x8x256x32768, .f32⟩
  | .hbm, ⟨14, _⟩ => ⟨S4x8x256x32768, .f32⟩
  | .hbm, ⟨15, _⟩ => ⟨S_, .f32⟩
  | .hbm, ⟨16, _⟩ => ⟨S4x8x256, .f32⟩
  | .hbm, ⟨17, _⟩ => ⟨S4x8x256x1, .f32⟩
  | .hbm, ⟨18, _⟩ => ⟨S4x8x256x32768, .f32⟩
  | .hbm, ⟨19, _⟩ => ⟨S4x8x256x32768, .f32⟩
  | .hbm, ⟨20, _⟩ => ⟨S4x8x256x32768, .f32⟩
  | .hbm, ⟨21, _⟩ => ⟨S_, .f32⟩
  | .hbm, ⟨22, _⟩ => ⟨S4x8x256, .f32⟩
  | .hbm, ⟨23, _⟩ => ⟨S4x8x256x1, .f32⟩
  | .hbm, ⟨24, _⟩ => ⟨S4x8x128x256, .f32⟩
  | .hbm, ⟨25, _⟩ => ⟨S4x256x8x128, .f32⟩
  | .hbm, ⟨26, _⟩ => ⟨S4x256x8x1, .f32⟩
  | .hbm, ⟨27, _⟩ => ⟨S4x256x8x128, .f32⟩
  | .hbm, ⟨28, _⟩ => ⟨S4x256x8x128, .f32⟩
  | .hbm, ⟨29, _⟩ => ⟨S1024x1024, .f32⟩
  | .hbm, ⟨30, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Proof.Steps.lean ====
/- The kernel body as a sequence of steps, each written once with its step number as a parameter.

   The printed body unrolls every loop of the kernel: 32 pairs of matrix products for the heads, 16 rounds of the ring,
   31 copies of the gathering phase and the waits for them. This module writes one program per kind of step and shows,
   by definitional unfolding, that the printed body is the sequence of them. All later modules reason about the steps. -/
module

public import proofs.«01_k».proof.Proof.Gen.KernelIdeal.Skeleton
public import Idealize.ShloMosaic.Lib.Pipeline.Regions

@[expose] public section

noncomputable section

namespace Attn

open Idealize.ShloMosaic Idealize.SL.Sem
open Cert.KernelIdeal Cert.KernelIdeal.Gen
open Pipeline (chain)

variable {F : FTy → Type} [FloatOps F]

/-- A program of the kernel's TensorCore. -/
abbrev TcProg (F : FTy → Type) [FloatOps F] := Prog (TpuEff nD τ sig (Elt F) Λ₀ .tc) PUnit

/-! ## The buffers -/

/-- The staged input `x`. -/
abbrev mX : Memref sig .tc .vmem S4x256x1024 .f32 := Memref.whole cc0_stg0_0
/-- The staged query weights. -/
abbrev mWq : Memref sig .tc .vmem S1024x1024 .f32 := Memref.whole cc0_stg1_0
/-- The staged output weights. -/
abbrev mWo : Memref sig .tc .vmem S1024x1024 .f32 := Memref.whole cc0_stg2_0
/-- The staged keys of the device. -/
abbrev mK : Memref sig .tc .vmem S4x1024x2x128 .f32 := Memref.whole cc0_stg3_0
/-- The staged values of the device. -/
abbrev mV : Memref sig .tc .vmem S4x1024x2x128 .f32 := Memref.whole cc0_stg4_0
/-- The staged result; it holds the queries first. -/
abbrev mO : Memref sig .tc .vmem S1024x1024 .f32 := Memref.whole cc0_stg5_0
/-- The accumulator: numerators in columns 0 to 1023, denominators in columns 1024 to 1031. -/
abbrev mA : Memref sig .tc .vmem S1024x1152 .f32 := Memref.whole cc0_scratch0
/-- Where the left neighbour's chunks land. -/
abbrev mR : Memref sig .tc .vmem S16x32x1152 .f32 := Memref.whole cc0_scratch1
/-- Where the right neighbour's chunks land. -/
abbrev mL : Memref sig .tc .vmem S15x32x1152 .f32 := Memref.whole cc0_scratch2

/-- The barrier semaphore. -/
abbrev barSem : Sem sig := (SemArray.scalar (sig.barrier 0 rfl) : Sems sig S_).sem
/-- The send semaphore of the copies to the right. -/
abbrev srSem : DmaSem sig := cc0_scratch3.sem
/-- The send semaphore of the copies to the left. -/
abbrev slSem : DmaSem sig := cc0_scratch4.sem

/-- Semaphore `s` is one of 16. -/
theorem inb16 (s : Fin 16) : ∀ a, (![s.val] : Fin 1 → Nat) a + S1.size a ≤ S16.size a := by
  revert s; decide
/-- Semaphore `s` is one of 15. -/
theorem inb15 (s : Fin 15) : ∀ a, (![s.val] : Fin 1 → Nat) a + S1.size a ≤ S15.size a := by
  revert s; decide
/-- Semaphore `s` is one of 32. -/
theorem inb32 (s : Fin 32) : ∀ a, (![s.val] : Fin 1 → Nat) a + S1.size a ≤ S32.size a := by
  revert s; decide

/-- The receive semaphore of round `s` for the chunk from the left. -/
abbrev rSem (s : Fin 16) : DmaSem sig :=
  ((cc0_scratch5.slice (Rect.unit (s := S16) ![s.val] S1.size (inb16 s))).squeeze S_ squeezes_S1_S_ : DmaSems sig S_).sem
/-- The receive semaphore of round `s` for the chunk from the right. -/
abbrev lSem (s : Fin 15) : DmaSem sig :=
  ((cc0_scratch6.slice (Rect.unit (s := S15) ![s.val] S1.size (inb15 s))).squeeze S_ squeezes_S1_S_ : DmaSems sig S_).sem
/-- The send semaphore of the gathering copy to the device `e` places on. -/
abbrev gsSem (e : Fin 32) : DmaSem sig :=
  ((cc0_scratch7.slice (Rect.unit (s := S32) ![e.val] S1.size (inb32 e))).squeeze S_ squeezes_S1_S_ : DmaSems sig S_).sem
/-- The receive semaphore of the gathering copy from the device `e` places on. -/
abbrev grSem (e : Fin 32) : DmaSem sig :=
  ((cc0_scratch8.slice (Rect.unit (s := S32) ![e.val] S1.size (inb32 e))).squeeze S_ squeezes_S1_S_ : DmaSems sig S_).sem

/-- Slot `s` lies inside the right-going landing buffer. -/
theorem inbR (s : Fin 16) : ∀ a, (![s.val, 0, 0] : Fin 3 → Nat) a + S1x32x1152.size a ≤ S16x32x1152.size a := by
  revert s; decide
/-- Slot `s` lies inside the left-going landing buffer. -/
theorem inbL (s : Fin 15) : ∀ a, (![s.val, 0, 0] : Fin 3 → Nat) a + S1x32x1152.size a ≤ S15x32x1152.size a := by
  revert s; decide

/-- Slot `s` of the landing buffer for chunks from the left. -/
abbrev mRs (s : Fin 16) : Memref sig .tc .vmem S32x1152 .f32 :=
  (mR.slice (Rect.unit (s := S16x32x1152) ![s.val, 0, 0] S1x32x1152.size (inbR s)) (fun _ => rfl)).squeeze S32x1152 squeezes_S1x32x1152_S32x1152
/-- Slot `s` of the landing buffer for chunks from the right. -/
abbrev mLs (s : Fin 15) : Memref sig .tc .vmem S32x1152 .f32 :=
  (mL.slice (Rect.unit (s := S15x32x1152) ![s.val, 0, 0] S1x32x1152.size (inbL s)) (fun _ => rfl)).squeeze S32x1152 squeezes_S1x32x1152_S32x1152

/-- A round of the ring with both directions, as a round of the ring. -/
abbrev up (s : Fin 15) : Fin 16 := ⟨s.val, Nat.lt_succ_of_lt s.isLt⟩

/-- The chunk sent to the right in round `s`. -/
abbrev mSendR (d0 : Dev nD) (s : Fin 16) : Memref sig .tc .vmem S32x1152 .f32 :=
  mA.slice (Rect.unit (s := S1024x1152) (k0_off1 d0 (BitVec.ofNat 32 s.val)) S32x1152.size (k0_off1_inb d0 s)) (fun _ => rfl)
/-- The chunk sent to the left in round `s`. -/
abbrev mSendL (d0 : Dev nD) (s : Fin 15) : Memref sig .tc .vmem S32x1152 .f32 :=
  mA.slice (Rect.unit (s := S1024x1152) (k0_off2 d0 (BitVec.ofNat 32 s.val)) S32x1152.size (k0_off2_inb d0 s)) (fun _ => rfl)
/-- The device's own rows of the result. -/
abbrev mOwn (d0 : Dev nD) : Memref sig .tc .vmem S32x1024 .f32 :=
  mO.slice (Rect.unit (s := S1024x1024) (k0_off8 d0) S32x1024.size (k0_off8_inb d0)) (fun _ => rfl)
/-- The rows of the result of the device `1 + e` places on. -/
abbrev mOther (d0 : Dev nD) (e : Fin 31) : Memref sig .tc .vmem S32x1024 .f32 :=
  mO.slice (Rect.unit (s := S1024x1024) (k0_off9 d0 (BitVec.ofNat 32 (1 + e.val))) S32x1024.size (k0_off9_inb d0 e)) (fun _ => rfl)

/-- The left neighbour. -/
abbrev leftOf (d0 : Dev nD) : Dev nD := ⟨k0_dev1 d0, k0_dev1_lt d0⟩
/-- The right neighbour. -/
abbrev rightOf (d0 : Dev nD) : Dev nD := ⟨k0_dev2 d0, k0_dev2_lt d0⟩

/-- The device `w` places on, as the kernel computes its number. -/
def devOn (d0 : Dev nD) (w : BitVec 32) : Nat :=
  (Scalar.addi 0#32 (Scalar.muli (Scalar.remsi (Scalar.addi (Scalar.remsi (Scalar.divsi (Dev.word d0) 1#32) 32#32) w) 32#32) 1#32)).toNat

/-- The number of the device that the gather's `e`-th copy goes to. -/
theorem devOn_eq : ∀ (d0 : Dev nD) (e : Fin 31), devOn d0 (BitVec.ofNat 32 (1 + e.val)) = (d0.val + (1 + e.val)) % 32 := by
  decide +kernel

/-- The gather's `e`-th copy goes to a device there is. -/
theorem devOn_lt (d0 : Dev nD) (e : Fin 31) : devOn d0 (BitVec.ofNat 32 (1 + e.val)) < nD := by
  rw [devOn_eq]; exact Nat.mod_lt _ (by decide)

/-- The device `1 + e` places on. -/
abbrev onBy (d0 : Dev nD) (e : Fin 31) : Dev nD := ⟨devOn d0 (BitVec.ofNat 32 (1 + e.val)), devOn_lt d0 e⟩

/-! ## The steps -/

/-- The projection: the queries into the result's buffer. -/
def qStep : TcProg F := do
  let x : Vec F S4x256x1024 .f32 ← Prog.lift (.load mX (Rect.unit (s := S4x256x1024) ![0, 0, 0] S4x256x1024.size inb_S4x256x1024_S4x256x1024_0_0_0).toLoadRect (View.loadsAt_vmem h_S4x256x1024))
  let w : Vec F S1024x1024 .f32 ← Prog.lift (.load mWq (Rect.unit (s := S1024x1024) ![0, 0] S1024x1024.size inb_S1024x1024_S1024x1024_0_0).toLoadRect (View.loadsAt_vmem h_S1024x1024))
  let _ : Vec F S1024x1024 .f32 ← Prog.lift (.load mO (Rect.unit (s := S1024x1024) ![0, 0] S1024x1024.size inb_S1024x1024_S1024x1024_0_0).toLoadRect (View.loadsAt_vmem h_S1024x1024))
  Prog.lift (.store mO (Rect.unit (s := S1024x1024) ![0, 0] S1024x1024.size inb_S1024x1024_S1024x1024_0_0) (k0_pay1 x w) Finset.univ (View.stores_vmem_bits_univ h_S1024x1024 rfl) (.inl rfl))

/-- The block of batch `b` and group `g` lies inside the keys, and inside the values. -/
theorem inbKV (b : Fin 4) (g : Fin 2) : ∀ a, (![b.val, 0, g.val, 0] : Fin 4 → Nat) a + S1x1024x1x128.size a ≤ S4x1024x2x128.size a := by
  revert b g; decide
/-- The block of batch `b` and head `h` lies inside the queries. -/
theorem inbQ (b : Fin 4) (h : Fin 8) : ∀ a, (![b.val * 256, h.val * 128] : Fin 2 → Nat) a + S256x128.size a ≤ S1024x1024.size a := by
  revert b h; decide
/-- The numerators of batch `b` and head `h` lie inside the accumulator. -/
theorem inbN (b : Fin 4) (h : Fin 8) : ∀ a, (![b.val * 256, h.val * 128] : Fin 2 → Nat) a + S256x128.size a ≤ S1024x1152.size a := by
  revert b h; decide
/-- The denominators of batch `b` and head `h` lie inside the accumulator. -/
theorem inbD (b : Fin 4) (h : Fin 8) : ∀ a, (![b.val * 256, 1024 + h.val] : Fin 2 → Nat) a + S256x1.size a ≤ S1024x1152.size a := by
  revert b h; decide

/-- One head of one batch: its numerators and its denominators into the accumulator. -/
def headStep (b : Fin 4) (k v : FVec F S1024x128 .bf16) (h : Fin 8) : TcProg F := do
  let q : Vec F S256x128 .f32 ← Prog.lift (.load mO (Rect.unit (s := S1024x1024) ![b.val * 256, h.val * 128] S256x128.size (inbQ b h)).toLoadRect (View.loadsAt_vmem h_S256x128))
  let _ : Vec F S256x128 .f32 ← Prog.lift (.load mA (Rect.unit (s := S1024x1152) ![b.val * 256, h.val * 128] S256x128.size (inbN b h)).toLoadRect (View.loadsAt_vmem h_S256x128))
  Prog.lift (.store mA (Rect.unit (s := S1024x1152) ![b.val * 256, h.val * 128] S256x128.size (inbN b h)) (k0_pay12 k v q) Finset.univ (View.stores_vmem_bits_univ h_S256x128 rfl) (.inl rfl))
  let _ : Vec F S256x1 .f32 ← Prog.lift (.load mA (Rect.unit (s := S1024x1152) ![b.val * 256, 1024 + h.val] S256x1.size (inbD b h)).toLoadRect (View.loadsAt_vmem h_S256x1))
  Prog.lift (.store mA (Rect.unit (s := S1024x1152) ![b.val * 256, 1024 + h.val] S256x1.size (inbD b h)) (k0_pay13 k q) Finset.univ (View.stores_vmem_bits_univ h_S256x1 rfl) (.inl rfl))

/-- The heads of one group. -/
abbrev headsOf : Fin 2 → List (Fin 8)
  | 0 => [0, 1, 2, 3]
  | 1 => [4, 5, 6, 7]

/-- One group of one batch: its keys and values, then its four heads. -/
def groupStep (bg : Fin 4 × Fin 2) : TcProg F := do
  let k : Vec F S1x1024x1x128 .f32 ← Prog.lift (.load mK (Rect.unit (s := S4x1024x2x128) ![bg.1.val, 0, bg.2.val, 0] S1x1024x1x128.size (inbKV bg.1 bg.2)).toLoadRect (View.loadsAt_vmem h_S1x1024x1x128))
  let v : Vec F S1x1024x1x128 .f32 ← Prog.lift (.load mV (Rect.unit (s := S4x1024x2x128) ![bg.1.val, 0, bg.2.val, 0] S1x1024x1x128.size (inbKV bg.1 bg.2)).toLoadRect (View.loadsAt_vmem h_S1x1024x1x128))
  chain ((headsOf bg.2).map (headStep bg.1 (k0_pay2 k) (k0_pay3 v)))

/-- The eight groups in order. -/
abbrev groups : List (Fin 4 × Fin 2) := [(0, 0), (0, 1), (1, 0), (1, 1), (2, 0), (2, 1), (3, 0), (3, 1)]

/-- Send a chunk to the right. -/
def sendR (d0 : Dev nD) (s : Fin 16) : TcProg F :=
  Prog.lift (.enqueueDma (mSendR d0 s) (.remote (Dev.tc (rightOf d0)) (mRs s) (.dma srSem)) (.dma (rSem s)) (View.wordExact_bits rfl) ((View.wordExact_bits rfl).reshape _ _) ⟨⟨rfl, Or.inl rfl⟩, trivial⟩)
/-- Send a chunk to the left. -/
def sendL (d0 : Dev nD) (s : Fin 15) : TcProg F :=
  Prog.lift (.enqueueDma (mSendL d0 s) (.remote (Dev.tc (leftOf d0)) (mLs s) (.dma slSem)) (.dma (lSem s)) (View.wordExact_bits rfl) ((View.wordExact_bits rfl).reshape _ _) ⟨⟨rfl, Or.inl rfl⟩, trivial⟩)
/-- Wait for the chunk from the left. -/
def recvR (d0 : Dev nD) (s : Fin 16) : TcProg F :=
  Prog.lift (.waitDma2 (rSem s) (mSendR d0 s) (mRs s) (View.wordExact_bits rfl) ((View.wordExact_bits rfl).reshape _ _))
/-- Wait for the chunk from the right. -/
def recvL (d0 : Dev nD) (s : Fin 15) : TcProg F :=
  Prog.lift (.waitDma2 (lSem s) (mSendL d0 s) (mLs s) (View.wordExact_bits rfl) ((View.wordExact_bits rfl).reshape _ _))
/-- Add the chunk that came from the left. -/
def addR (d0 : Dev nD) (s : Fin 16) : TcProg F := do
  let a : Vec F S32x1152 .f32 ← Prog.lift (.load mA (Rect.unit (s := S1024x1152) (k0_off3 d0 (BitVec.ofNat 32 s.val)) S32x1152.size (k0_off3_inb d0 s)).toLoadRect (View.loadsAt_vmem h_S32x1152))
  let r : Vec F S1x32x1152 .f32 ← Prog.lift (.load mR (Rect.unit (s := S16x32x1152) ![s.val, 0, 0] S1x32x1152.size (inbR s)).toLoadRect (View.loadsAt_vmem h_S1x32x1152))
  let _ : Vec F S32x1152 .f32 ← Prog.lift (.load mA (Rect.unit (s := S1024x1152) (k0_off3 d0 (BitVec.ofNat 32 s.val)) S32x1152.size (k0_off3_inb d0 s)).toLoadRect (View.loadsAt_vmem h_S32x1152))
  Prog.lift (.store mA (Rect.unit (s := S1024x1152) (k0_off3 d0 (BitVec.ofNat 32 s.val)) S32x1152.size (k0_off3_inb d0 s)) (k0_pay134 a r) Finset.univ (View.stores_vmem_bits_univ h_S32x1152 rfl) (.inl rfl))
/-- Add the chunk that came from the right. -/
def addL (d0 : Dev nD) (s : Fin 15) : TcProg F := do
  let a : Vec F S32x1152 .f32 ← Prog.lift (.load mA (Rect.unit (s := S1024x1152) (k0_off4 d0 (BitVec.ofNat 32 s.val)) S32x1152.size (k0_off4_inb d0 s)).toLoadRect (View.loadsAt_vmem h_S32x1152))
  let r : Vec F S1x32x1152 .f32 ← Prog.lift (.load mL (Rect.unit (s := S15x32x1152) ![s.val, 0, 0] S1x32x1152.size (inbL s)).toLoadRect (View.loadsAt_vmem h_S1x32x1152))
  let _ : Vec F S32x1152 .f32 ← Prog.lift (.load mA (Rect.unit (s := S1024x1152) (k0_off4 d0 (BitVec.ofNat 32 s.val)) S32x1152.size (k0_off4_inb d0 s)).toLoadRect (View.loadsAt_vmem h_S32x1152))
  Prog.lift (.store mA (Rect.unit (s := S1024x1152) (k0_off4 d0 (BitVec.ofNat 32 s.val)) S32x1152.size (k0_off4_inb d0 s)) (k0_pay134 a r) Finset.univ (View.stores_vmem_bits_univ h_S32x1152 rfl) (.inl rfl))
/-- Wait until the chunk to the right has been read. -/
def sentR (d0 : Dev nD) (s : Fin 16) : TcProg F :=
  Prog.lift (.waitDma2 srSem (mRs s) (mSendR d0 s) ((View.wordExact_bits rfl).reshape _ _) (View.wordExact_bits rfl))
/-- Wait until the chunk to the left has been read. -/
def sentL (d0 : Dev nD) (s : Fin 15) : TcProg F :=
  Prog.lift (.waitDma2 slSem (mLs s) (mSendL d0 s) ((View.wordExact_bits rfl).reshape _ _) (View.wordExact_bits rfl))

/-- A round of the ring with both directions. -/
def ringStep (d0 : Dev nD) (s : Fin 15) : TcProg F := do
  sendR d0 (up s); sendL d0 s; recvR d0 (up s); recvL d0 s; addR d0 (up s); addL d0 s; sentR d0 (up s); sentL d0 s

/-- The last round: to the right only. -/
def lastStep (d0 : Dev nD) : TcProg F := do
  sendR d0 15; recvR d0 15; addR d0 15; sentR d0 15

/-- The device's rows of the result from its sums `l` (denominators), `o` (numerators) and the output weights. -/
def rowsVal (l : Vec F S32x8 .f32) (o : Vec F S32x1024 .f32) (w : Vec F S1024x1024 .f32) : FVec F S32x1024 .f32 :=
  k0_pay176 (k0_pay169 l) o (k0_pay170 l o) (k0_pay171 l o) (k0_pay172 l o) (k0_pay173 l o) (k0_pay174 l o) (k0_pay175 l o) w

/-- Normalise the device's rows and apply the output weights. -/
def rowsStep (d0 : Dev nD) : TcProg F := do
  let l : Vec F S32x8 .f32 ← Prog.lift (.load mA (Rect.unit (s := S1024x1152) (k0_off5 d0) S32x8.size (k0_off5_inb d0)).toLoadRect (View.loadsAt_vmem h_S32x8))
  let o : Vec F S32x1024 .f32 ← Prog.lift (.load mA (Rect.unit (s := S1024x1152) (k0_off6 d0) S32x1024.size (k0_off6_inb d0)).toLoadRect (View.loadsAt_vmem h_S32x1024))
  let w : Vec F S1024x1024 .f32 ← Prog.lift (.load mWo (Rect.unit (s := S1024x1024) ![0, 0] S1024x1024.size inb_S1024x1024_S1024x1024_0_0).toLoadRect (View.loadsAt_vmem h_S1024x1024))
  let _ : Vec F S32x1024 .f32 ← Prog.lift (.load mO (Rect.unit (s := S1024x1024) (k0_off7 d0) S32x1024.size (k0_off7_inb d0)).toLoadRect (View.loadsAt_vmem h_S32x1024))
  Prog.lift (.store mO (Rect.unit (s := S1024x1024) (k0_off7 d0) S32x1024.size (k0_off7_inb d0)) (rowsVal l o w) Finset.univ (View.stores_vmem_bits_univ h_S32x1024 rfl) (.inl rfl))

/-- The semaphore index of the device `1 + e` places on. -/
abbrev fwd (e : Fin 31) : Fin 32 := ⟨1 + e.val, by omega⟩
/-- The semaphore index under which that device knows this one. -/
abbrev bwd (e : Fin 31) : Fin 32 := ⟨31 - e.val, by omega⟩

/-- Copy the device's rows to the device `1 + e` places on. -/
def gatherSend (d0 : Dev nD) (e : Fin 31) : TcProg F :=
  Prog.lift (.enqueueDma (mOwn d0) (.remote (Dev.tc (onBy d0 e)) (mOwn d0) (.dma (gsSem (fwd e)))) (.dma (grSem (bwd e))) (View.wordExact_bits rfl) (View.wordExact_bits rfl) ⟨⟨rfl, Or.inl rfl⟩, trivial⟩)
/-- Wait for the rows of the device `1 + e` places on. -/
def gatherRecv (d0 : Dev nD) (e : Fin 31) : TcProg F :=
  Prog.lift (.waitDma2 (grSem (fwd e)) (mOther d0 e) (mOther d0 e) (View.wordExact_bits rfl) (View.wordExact_bits rfl))
/-- Wait until the copy to the device `1 + e` places on has been read. -/
def gatherSent (d0 : Dev nD) (e : Fin 31) : TcProg F :=
  Prog.lift (.waitDma2 (gsSem (fwd e)) (mOwn d0) (mOwn d0) (View.wordExact_bits rfl) (View.wordExact_bits rfl))

/-- The numbers of the gathering copies in order. -/
abbrev places : List (Fin 31) :=
  [0, 1, 2, 3, 4, 5, 6, 7, 8, 9, 10, 11, 12, 13, 14, 15, 16, 17, 18, 19, 20, 21, 22, 23, 24, 25, 26, 27, 28, 29, 30]
/-- The rounds of the ring with both directions in order. -/
abbrev rounds : List (Fin 15) := [0, 1, 2, 3, 4, 5, 6, 7, 8, 9, 10, 11, 12, 13, 14]

/-- Everything after the barrier. -/
def afterBarrier (d0 : Dev nD) : TcProg F := do
  qStep
  chain (groups.map groupStep)
  chain (rounds.map (ringStep d0))
  lastStep d0
  rowsStep d0
  chain (places.map (gatherSend d0))
  chain (places.map (gatherRecv d0))
  chain (places.map (gatherSent d0))

/-- The kernel body as its steps. -/
def steps : TcProg F := do
  let d0 : Dev nD ← Prog.lift .deviceId
  semSignalWord (leftOf d0) barSem 1#32
  semSignalWord (rightOf d0) barSem 1#32
  semWaitWord barSem 2#32
  afterBarrier d0

set_option maxRecDepth 65536 in
/-- The printed body is the sequence of its steps. -/
theorem body_eq : cc0_body (F := F) mX (Memref.isWhole_whole _) mWq (Memref.isWhole_whole _) mWo (Memref.isWhole_whole _) mK (Memref.isWhole_whole _) mV (Memref.isWhole_whole _) mO (Memref.isWhole_whole _) mA (Memref.isWhole_whole _) mR (Memref.isWhole_whole _) mL (Memref.isWhole_whole _) cc0_scratch3 cc0_scratch4 cc0_scratch5 cc0_scratch6 cc0_scratch7 cc0_scratch8 = steps := by
  chain_rfl

end Attn

end
-- ==== Proof.Protocol.lean ====
/- The talk between the devices: the semaphores, what each hand-over carries, and in what order.

   All positions on the ring of 32 devices are written with `rot n c`, the device `n` places on from `c`. Rows of the
   accumulator and of the result are cut in 32 chunks of 32 rows, chunk `k` being the one device `k` finishes, so chunks
   are numbered by devices too. -/
module

public import proofs.«01_k».proof.Proof.Steps
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The ring -/

/-- The device `n` places on. -/
def rot (n : ℕ) (c : Dev nD) : Dev nD := ⟨(c.val + n) % 32, Nat.mod_lt _ (by decide)⟩

/-- The number of the device `n` further on. -/
theorem rot_val (n : ℕ) (c : Dev nD) : (rot n c).val = (c.val + n) % 32 := rfl
/-- Going on by `b` and then by `a` is going on by `a + b`. -/
theorem rot_rot (a b : ℕ) (c : Dev nD) : rot a (rot b c) = rot (a + b) c := by
  apply Fin.ext; simp only [rot_val]; omega
/-- How far one goes on matters modulo 32 only. -/
theorem rot_mod (a b : ℕ) (c : Dev nD) (h : a % 32 = b % 32) : rot a c = rot b c := by
  apply Fin.ext; simp only [rot_val]; omega
/-- Going on by a multiple of 32 comes back. -/
theorem rot_zero (a : ℕ) (c : Dev nD) (h : a % 32 = 0) : rot a c = c := by
  apply Fin.ext; simp only [rot_val]; have := c.isLt; simp only [show nD = 32 from rfl] at this; omega

/-- Going `n` places on, as a permutation of the devices. -/
def ringBy (n : ℕ) : Dev nD ≃ Dev nD where
  toFun := rot n
  invFun := rot (31 * n)
  left_inv c := by rw [rot_rot]; exact rot_zero _ c (by omega)
  right_inv c := by rw [rot_rot]; exact rot_zero _ c (by omega)

/-- The left neighbour. -/
abbrev lft (c : Dev nD) : Dev nD := rot 31 c
/-- The right neighbour. -/
abbrev rgt (c : Dev nD) : Dev nD := rot 1 c

/-- The right neighbour of the left neighbour is the device itself. -/
theorem rgt_lft (c : Dev nD) : rgt (lft c) = c := (rot_rot 1 31 c).trans (rot_zero _ c (by decide))
/-- The left neighbour of the right neighbour is the device itself. -/
theorem lft_rgt (c : Dev nD) : lft (rgt c) = c := (rot_rot 31 1 c).trans (rot_zero _ c (by decide))

/-- The chunk sent to the right in round `s`; the one that arrives in it is the next. -/
abbrev chunkR (c : Dev nD) (s : ℕ) : Dev nD := rot (48 - s) c
/-- The chunk sent to the left in round `s`; the one that arrives in it is the next. -/
abbrev chunkL (c : Dev nD) (s : ℕ) : Dev nD := rot (17 + s) c

/-- What the left neighbour sends right in round `s` is what the device sends right in the next one. -/
theorem chunkR_lft (c : Dev nD) (s : ℕ) (h : s < 16) : chunkR (lft c) s = chunkR c (s + 1) :=
  (rot_rot (48 - s) 31 c).trans (rot_mod _ _ c (by omega))
/-- What the right neighbour sends left in round `s` is what the device sends left in the next one. -/
theorem chunkL_rgt (c : Dev nD) (s : ℕ) : chunkL (rgt c) s = chunkL c (s + 1) :=
  (rot_rot (17 + s) 1 c).trans (rot_mod _ _ c (by omega))

/-- The kernel's left neighbour is the one before on the ring. -/
theorem leftOf_eq : ∀ c : Dev nD, leftOf c = lft c := by decide +kernel
/-- The kernel's right neighbour is the one after on the ring. -/
theorem rightOf_eq : ∀ c : Dev nD, rightOf c = rgt c := by decide +kernel
/-- The kernel's `e`-th other device is the one `1 + e` further on. -/
theorem onBy_eq (c : Dev nD) (e : Fin 31) : onBy c e = rot (1 + e.val) c := Fin.ext (devOn_eq c e)

/-- Offset 1 of the kernel, in closed form: that of the chunk sent right in round `s`. -/
theorem off1_eq : ∀ (c : Dev nD) (s : Fin 16), k0_off1 c (BitVec.ofNat 32 s.val) = ![(chunkR c s.val).val * 32, 0] := by decide +kernel
/-- Offset 2 of the kernel, in closed form: that of the chunk sent left in round `s`. -/
theorem off2_eq : ∀ (c : Dev nD) (s : Fin 15), k0_off2 c (BitVec.ofNat 32 s.val) = ![(chunkL c s.val).val * 32, 0] := by decide +kernel
/-- Offset 3 of the kernel, in closed form: that of the chunk that what lands from the left in round `s` is added to. -/
theorem off3_eq : ∀ (c : Dev nD) (s : Fin 16), k0_off3 c (BitVec.ofNat 32 s.val) = ![(chunkR c (s.val + 1)).val * 32, 0] := by decide +kernel
/-- Offset 4 of the kernel, in closed form: that of the chunk that what lands from the right in round `s` is added to. -/
theorem off4_eq : ∀ (c : Dev nD) (s : Fin 15), k0_off4 c (BitVec.ofNat 32 s.val) = ![(chunkL c (s.val + 1)).val * 32, 0] := by decide +kernel
/-- Offset 5 of the kernel, in closed form: that of the own denominators. -/
theorem off5_eq : ∀ (c : Dev nD), k0_off5 c = ![c.val * 32, 1024] := by decide +kernel
/-- Offset 6 of the kernel, in closed form: that of the own numerators. -/
theorem off6_eq : ∀ (c : Dev nD), k0_off6 c = ![c.val * 32, 0] := by decide +kernel
/-- Offset 7 of the kernel, in closed form: that of the own rows that a device writes its result in. -/
theorem off7_eq : ∀ (c : Dev nD), k0_off7 c = ![c.val * 32, 0] := by decide +kernel
/-- Offset 8 of the kernel, in closed form: that of the own rows that a device sends. -/
theorem off8_eq : ∀ (c : Dev nD), k0_off8 c = ![c.val * 32, 0] := by decide +kernel
/-- Offset 9 of the kernel, in closed form: that of the rows of the device `1 + e` further on. -/
theorem off9_eq : ∀ (c : Dev nD) (e : Fin 31), k0_off9 c (BitVec.ofNat 32 (1 + e.val)) = ![(rot (1 + e.val) c).val * 32, 0] := by decide +kernel

/-! ## The cells -/

/-- The kernel's own semaphores on a device. -/
inductive Own
  | sr | sl | r (s : Fin 16) | l (s : Fin 15) | idle (b : Bool) | gs (e : Fin 31) | gr (e : Fin 31)
  deriving DecidableEq

/-- The own semaphores as a sum of families. -/
def Own.families : (Bool ⊕ Bool) ⊕ (Fin 16 ⊕ Fin 15) ⊕ (Fin 31 ⊕ Fin 31) ≃ Own where
  toFun
    | .inl (.inl b) => bif b then .sr else .sl
    | .inl (.inr b) => .idle b
    | .inr (.inl (.inl s)) => .r s
    | .inr (.inl (.inr s)) => .l s
    | .inr (.inr (.inl e)) => .gs e
    | .inr (.inr (.inr e)) => .gr e
  invFun
    | .sr => .inl (.inl true)
    | .sl => .inl (.inl false)
    | .idle b => .inl (.inr b)
    | .r s => .inr (.inl (.inl s))
    | .l s => .inr (.inl (.inr s))
    | .gs e => .inr (.inr (.inl e))
    | .gr e => .inr (.inr (.inr e))
  left_inv x := by rcases x with (b | b) | (s | s) | (e | e) <;> first | rfl | (cases b <;> rfl)
  right_inv x := by cases x <;> rfl

instance : Fintype Own := Fintype.ofEquiv _ Own.families

/-- The semaphore of an own cell. -/
abbrev osem : Own → SemLoc sig
  | .sr => .dma srSem
  | .sl => .dma slSem
  | .r s => .dma (rSem s)
  | .l s => .dma (lSem s)
  | .idle b => .dma (bif b then gsSem 0 else grSem 0)
  | .gs e => .dma (gsSem (fwd e))
  | .gr e => .dma (grSem (fwd e))

/-- All cells of the talk: the barrier's (`none`) and the own ones. -/
abbrev Cell := Option Own

/-- The semaphore of a cell. -/
abbrev csem : Cell → SemLoc sig
  | none => .reg barSem
  | some o => osem o

/-- The cell of a semaphore number. -/
def decodeDma (n : ℕ) : Option Own :=
  if n = 6 then some .sr else if n = 7 then some .sl
  else if h : 8 ≤ n ∧ n < 24 then some (.r ⟨n - 8, by omega⟩)
  else if h : 24 ≤ n ∧ n < 39 then some (.l ⟨n - 24, by omega⟩)
  else if n = 39 then some (.idle true)
  else if h : 40 ≤ n ∧ n < 71 then some (.gs ⟨n - 40, by omega⟩)
  else if n = 71 then some (.idle false)
  else if h : 72 ≤ n ∧ n < 103 then some (.gr ⟨n - 72, by omega⟩)
  else none

/-- The cell of a semaphore, if it is one of the talk. -/
def decode : SemLoc sig → Option Cell
  | .reg _ => some none
  | .dma q => (decodeDma q.val).map some

/-- The number of the semaphore of landing slot `s`, going right. -/
theorem rSem_val : ∀ s : Fin 16, (rSem s).val = 8 + s.val := by decide +kernel
/-- The number of the semaphore of landing slot `s`, going left. -/
theorem lSem_val : ∀ s : Fin 15, (lSem s).val = 24 + s.val := by decide +kernel
/-- The number of the gather's `e`-th send semaphore. -/
theorem gsSem_val : ∀ e : Fin 32, (gsSem e).val = 39 + e.val := by decide +kernel
/-- The number of the gather's `e`-th arrival semaphore. -/
theorem grSem_val : ∀ e : Fin 32, (grSem e).val = 71 + e.val := by decide +kernel

/-- Every own cell's semaphore is a copy semaphore, and its number tells the cell. -/
theorem decodeDma_osem : ∀ o : Own, ∃ q, osem o = .dma q ∧ decodeDma q.val = some o := by
  intro o
  cases o with
  | sr => exact ⟨_, rfl, by decide +kernel⟩
  | sl => exact ⟨_, rfl, by decide +kernel⟩
  | r s => refine ⟨_, rfl, ?_⟩; rw [rSem_val]; revert s; decide +kernel
  | l s => refine ⟨_, rfl, ?_⟩; rw [lSem_val]; revert s; decide +kernel
  | idle b => refine ⟨_, rfl, ?_⟩; revert b; decide +kernel
  | gs e => refine ⟨_, rfl, ?_⟩; rw [gsSem_val]; revert e; decide +kernel
  | gr e => refine ⟨_, rfl, ?_⟩; rw [grSem_val]; revert e; decide +kernel

/-- A cell is told by its semaphore. -/
theorem decode_csem (k : Cell) : decode (csem k) = some k := by
  cases k with
  | none => rfl
  | some o =>
    obtain ⟨q, h, hq⟩ := decodeDma_osem o
    show decode (osem o) = _
    rw [h]; show (decodeDma q.val).map some = _; rw [hq]; rfl

/-- Different cells have different semaphores. -/
theorem csem_inj : Function.Injective csem := fun a b h => by
  have := congrArg decode h
  rw [decode_csem, decode_csem] at this
  exact Option.some.inj this

/-- The cell `k` of device `c`. -/
abbrev kcell (ck : Dev nD × Cell) : GSem nD τ sig := ((ck.1 : Thread nD τ), csem ck.2)

/-- Different cells of different devices are different. -/
theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]

end Attn

end
-- ==== Proof.Contents.lean ====
/- What the buffers hold: the contents of the staged inputs, of the accumulator after the local attention, of the chunks
   that travel round the ring, and of the result. All of it as functions of the memory at launch, for any float values. -/
module

public import proofs.«01_k».proof.Proof.Protocol
public import Idealize.ShloMosaic.Lib.ValueIdxCore

@[expose] public section

noncomputable section

namespace Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-- The rounds of this kernel's talk, as a resource. -/
abbrev UB : Type := URounds (GSem nD τ sig) Bool
/-- The pipeline's rounds and the talk's. -/
abbrev UU : Type := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state at launch: any memory, all semaphores at zero, any generator registers. -/
def s₀ : MemSt nD τ sig (Elt F) := ⟨m, fun _ => 0, ρ⟩

/-! ## Arrays -/

/-- An array of one chunk of the accumulator. -/
abbrev Chunk (F : FTy → Type) := S32x1152.Idx → F .f32
/-- An array of one chunk of the result. -/
abbrev Rows (F : FTy → Type) := S32x1024.Idx → F .f32

/-- Two chunks agree where the kernel keeps sums, in columns 0 to 1031. -/
def Agree (g f : Chunk F) : Prop := ∀ p, (p 1).val < 1032 → f p = g p

/-- The entrywise sum of two chunks. -/
def addC (a b : Chunk F) : Chunk F := fun p => FloatOps.addf (a p) (b p)

/-- Sums of chunks that agree agree. -/
theorem Agree.add {g g' f f' : Chunk F} (h : Agree g f) (h' : Agree g' f') : Agree (addC g g') (addC f f') :=
  fun p hp => by unfold addC; rw [h p hp, h' p hp]

/-- Chunk `k` lies inside the accumulator. -/
theorem inbA (k : Dev nD) : ∀ a, (![k.val * 32, 0] : Fin 2 → Nat) a + S32x1152.size a ≤ S1024x1152.size a := by
  revert k; decide
/-- The rows of chunk `k` lie inside the result. -/
theorem inbO (k : Dev nD) : ∀ a, (![k.val * 32, 0] : Fin 2 → Nat) a + S32x1024.size a ≤ S1024x1024.size a := by
  revert k; decide

/-- Chunk `k` of the accumulator. -/
abbrev mAc (k : Dev nD) : Memref sig .tc .vmem S32x1152 .f32 :=
  mA.slice (Rect.unit (s := S1024x1152) ![k.val * 32, 0] S32x1152.size (inbA k)) (fun _ => rfl)
/-- Chunk `k` of the result. -/
abbrev mOc (k : Dev nD) : Memref sig .tc .vmem S32x1024 .f32 :=
  mO.slice (Rect.unit (s := S1024x1024) ![k.val * 32, 0] S32x1024.size (inbO k)) (fun _ => rfl)

/-- A slice depends on its offset only through the offset's value. -/
theorem sliceA_congr {o o' : Fin 2 → Nat} (h : o = o') (i) (i') :
    mA.slice (Rect.unit (s := S1024x1152) o S32x1152.size i) (fun _ => rfl) = mA.slice (Rect.unit (s := S1024x1152) o' S32x1152.size i') (fun _ => rfl) := by
  subst h; rfl
/-- A result slice depends on its offset only. -/
theorem sliceO_congr {o o' : Fin 2 → Nat} (h : o = o') (i) (i') :
    mO.slice (Rect.unit (s := S1024x1024) o S32x1024.size i) (fun _ => rfl) = mO.slice (Rect.unit (s := S1024x1024) o' S32x1024.size i') (fun _ => rfl) := by
  subst h; rfl

/-- What round `s` sends to the right is chunk `chunkR c s` of the accumulator. -/
theorem mSendR_eq (c : Dev nD) (s : Fin 16) : mSendR c s = mAc (chunkR c s.val) := sliceA_congr (off1_eq c s) _ _
/-- What round `s` sends to the left is chunk `chunkL c s` of the accumulator. -/
theorem mSendL_eq (c : Dev nD) (s : Fin 15) : mSendL c s = mAc (chunkL c s.val) := sliceA_congr (off2_eq c s) _ _
/-- A device stores its own result in the rows of its own chunk. -/
theorem mOwn_eq (c : Dev nD) : mOwn c = mOc c := sliceO_congr (off8_eq c) _ _
/-- The rows the gather's `e`-th copy is about are those of the device `1 + e` further on. -/
theorem mOther_eq (c : Dev nD) (e : Fin 31) : mOther c e = mOc (rot (1 + e.val) c) := sliceO_congr (off9_eq c e) _ _

/-! ## The local attention -/

/-- The staged inputs of device `c`. -/
def xIn (c : Dev nD) : (cc0_stg0_0 : Ref sig .tc).ty.Contents (Elt F) :=
  (win0_0.blk (0 : Fin 1)).view.read (Elt F) ((s₀ m ρ).mem ((c : Thread nD τ).loc main_arg0))
def wqIn (c : Dev nD) : (cc0_stg1_0 : Ref sig .tc).ty.Contents (Elt F) :=
  (win0_1.blk (0 : Fin 1)).view.read (Elt F) ((s₀ m ρ).mem ((c : Thread nD τ).loc main_arg1))
def woIn (c : Dev nD) : (cc0_stg2_0 : Ref sig .tc).ty.Contents (Elt F) :=
  (win0_2.blk (0 : Fin 1)).view.read (Elt F) ((s₀ m ρ).mem ((c : Thread nD τ).loc main_arg4))
def kIn (c : Dev nD) : (cc0_stg3_0 : Ref sig .tc).ty.Contents (Elt F) :=
  (win0_3.blk (0 : Fin 1)).view.read (Elt F) ((s₀ m ρ).mem ((c : Thread nD τ).loc main_arg2))
def vIn (c : Dev nD) : (cc0_stg4_0 : Ref sig .tc).ty.Contents (Elt F) :=
  (win0_4.blk (0 : Fin 1)).view.read (Elt F) ((s₀ m ρ).mem ((c : Thread nD τ).loc main_arg3))

/-- The queries, all heads of all batches. -/
def qAll (c : Dev nD) : (cc0_stg5_0 : Ref sig .tc).ty.Contents (Elt F) := k0_pay1 (xIn m ρ c) (wqIn m ρ c)
/-- The queries of one head of one batch. -/
def qBlk (c : Dev nD) (b : Fin 4) (h : Fin 8) : Vec F S256x128 .f32 :=
  mO.view.readAt (Elt F) (Rect.unit (s := S1024x1024) ![b.val * 256, h.val * 128] S256x128.size (inbQ b h)).toLoadRect (qAll m ρ c)
/-- The keys of one group of one batch. -/
def kBlk (c : Dev nD) (b : Fin 4) (g : Fin 2) : FVec F S1024x128 .bf16 :=
  k0_pay2 (mK.view.readAt (Elt F) (Rect.unit (s := S4x1024x2x128) ![b.val, 0, g.val, 0] S1x1024x1x128.size (inbKV b g)).toLoadRect (kIn m ρ c))
/-- The values of one group of one batch. -/
def vBlk (c : Dev nD) (b : Fin 4) (g : Fin 2) : FVec F S1024x128 .bf16 :=
  k0_pay3 (mV.view.readAt (Elt F) (Rect.unit (s := S4x1024x2x128) ![b.val, 0, g.val, 0] S1x1024x1x128.size (inbKV b g)).toLoadRect (vIn m ρ c))

/-- The group of a head. -/
abbrev grp (h : Fin 8) : Fin 2 := ⟨h.val / 4, by omega⟩
/-- The numerators of one head of one batch over the device's keys. -/
def numAt (c : Dev nD) (b : Fin 4) (h : Fin 8) : FVec F S256x128 .f32 := k0_pay12 (kBlk m ρ c b (grp h)) (vBlk m ρ c b (grp h)) (qBlk m ρ c b h)
/-- The denominators of one head of one batch over the device's keys. -/
def denAt (c : Dev nD) (b : Fin 4) (h : Fin 8) : FVec F S256x1 .f32 := k0_pay13 (kBlk m ρ c b (grp h)) (qBlk m ρ c b h)

/-- The head a column of the accumulator belongs to. -/
def headOf (j : ℕ) : Fin 8 := if h : j < 1024 then ⟨j / 128, by omega⟩ else ⟨(j - 1024) % 8, by omega⟩
/-- The batch a row belongs to. -/
def batchOf (i : Fin 1024) : Fin 4 := ⟨i.val / 256, by omega⟩

/-- The accumulator after the local attention, in columns 0 to 1031. -/
def locA (c : Dev nD) : S1024x1152.Idx → F .f32 := fun i =>
  if (i 1).val < 1024 then
    numAt m ρ c (batchOf (i 0)) (headOf (i 1).val) (ix2 (n0 := 256) (n1 := 128) ⟨(i 0).val % 256, by omega⟩ ⟨(i 1).val % 128, by omega⟩)
  else denAt m ρ c (batchOf (i 0)) (headOf (i 1).val) (ix2 (n0 := 256) (n1 := 1) ⟨(i 0).val % 256, by omega⟩ 0)

/-! ## Round the ring -/

/-- Chunk `k` of device `c`'s local sums. -/
def locC (c k : Dev nD) : Chunk F := (mAc k).view.read (Elt F) (locA m ρ c)

/-- What device `c` sends to the right in round `s`: its own sums of that chunk and all that came with it. -/
def sentRv : ℕ → Dev nD → Chunk F
  | 0, c => locC m ρ c (chunkR c 0)
  | s + 1, c => addC (locC m ρ c (chunkR c (s + 1))) (sentRv s (lft c))
/-- What device `c` sends to the left in round `s`; in round 15 it keeps it. -/
def sentLv : ℕ → Dev nD → Chunk F
  | 0, c => locC m ρ c (chunkL c 0)
  | s + 1, c => addC (locC m ρ c (chunkL c (s + 1))) (sentLv s (rgt c))

/-- The sums of all devices for device `c`'s chunk. -/
def sumC (c : Dev nD) : Chunk F := addC (sentLv m ρ 15 c) (sentRv m ρ 15 (lft c))

/-- The denominators of a chunk. -/
def denC (g : Chunk F) : Vec F S32x8 .f32 := fun p => g (ix2 (n0 := 32) (n1 := 1152) (p 0) ⟨1024 + (p 1).val, by have := idx2_lt1 p; omega⟩)
/-- The numerators of a chunk. -/
def numC (g : Chunk F) : Vec F S32x1024 .f32 := fun p => g (ix2 (n0 := 32) (n1 := 1152) (p 0) ⟨(p 1).val, by have := idx2_lt1 p; omega⟩)

/-- Device `c`'s rows of the result. -/
def outRows (c : Dev nD) : Rows F := rowsVal (denC (sumC m ρ c)) (numC (sumC m ρ c)) (woIn m ρ c)

/-- The result, the same on every device. -/
def outAll : (cc0_stg5_0 : Ref sig .tc).ty.Contents (Elt F) := fun i =>
  outRows m ρ ⟨(i 0).val / 32, by have := idx2_lt0 i; show (i 0).val / 32 < 32; omega⟩ (ix2 (n0 := 32) (n1 := 1024) ⟨(i 0).val % 32, by omega⟩ (i 1))

/-- An entry of a chunk of the result sits 32 rows per chunk further down. -/
theorem read_mOc (k : Dev nD) (f : (cc0_stg5_0 : Ref sig .tc).ty.Contents (Elt F)) (p : S32x1024.Idx) :
    (mOc k).view.read (Elt F) f p = f (ix2 (n0 := 1024) (n1 := 1024) ⟨k.val * 32 + (p 0).val, by have := idx2_lt0 p; have := k.isLt; simp only [show nD = 32 from rfl] at this; omega⟩ (p 1)) := by
  refine congrArg f (funext fun a => ?_)
  match a with
  | ⟨0, _⟩ => exact Fin.ext (by show k.val * 32 + 1 * (p 0).val = _; rw [Nat.one_mul])
  | ⟨1, _⟩ => exact Fin.ext (by show 0 + 1 * (p 1).val = _; rw [Nat.one_mul, Nat.zero_add])

/-- An entry of a chunk of the accumulator sits 32 rows per chunk further down. -/
theorem read_mAc (k : Dev nD) (f : (cc0_scratch0 : Ref sig .tc).ty.Contents (Elt F)) (p : S32x1152.Idx) :
    (mAc k).view.read (Elt F) f p = f (ix2 (n0 := 1024) (n1 := 1152) ⟨k.val * 32 + (p 0).val, by have := idx2_lt0 p; have := k.isLt; simp only [show nD = 32 from rfl] at this; omega⟩ (p 1)) := by
  refine congrArg f (funext fun a => ?_)
  match a with
  | ⟨0, _⟩ => exact Fin.ext (by show k.val * 32 + 1 * (p 0).val = _; rw [Nat.one_mul])
  | ⟨1, _⟩ => exact Fin.ext (by show 0 + 1 * (p 1).val = _; rw [Nat.one_mul, Nat.zero_add])

/-- Rows `k` of the whole result are what device `k` computes. -/
theorem read_outAll (k : Dev nD) : (mOc k).view.read (Elt F) (outAll m ρ) = outRows m ρ k := by
  funext p
  rw [read_mOc]
  unfold outAll
  have h0 := idx2_lt0 p
  have hk : (⟨(k.val * 32 + (p 0).val) / 32, by have := k.isLt; simp only [show nD = 32 from rfl] at this ⊢; omega⟩ : Dev nD) = k := Fin.ext (by show (k.val * 32 + (p 0).val) / 32 = _; omega)
  have hp : (ix2 (n0 := 32) (n1 := 1024) ⟨(k.val * 32 + (p 0).val) % 32, by omega⟩ (p 1)) = p := by
    funext a
    match a with
    | ⟨0, _⟩ => exact Fin.ext (by show (k.val * 32 + (p 0).val) % 32 = (p 0).val; omega)
    | ⟨1, _⟩ => rfl
  exact (congrArg (fun k' => outRows m ρ k' _) hk).trans (congrArg _ hp)

/-- An array whose chunks are the devices' rows is the result. -/
theorem outAll_of_read (f : (cc0_stg5_0 : Ref sig .tc).ty.Contents (Elt F)) (h : ∀ k, (mOc k).view.read (Elt F) f = outRows m ρ k) : f = outAll m ρ := by
  funext i
  have h0 := idx2_lt0 i
  have hk : (i 0).val / 32 < nD := by show _ < 32; omega
  have e := congrFun ((h ⟨(i 0).val / 32, hk⟩).trans (read_outAll m ρ _).symm) (ix2 (n0 := 32) (n1 := 1024) ⟨(i 0).val % 32, by omega⟩ (i 1))
  rw [read_mOc, read_mOc] at e
  have hi : (ix2 (n0 := 1024) (n1 := 1024) ⟨(i 0).val / 32 * 32 + (i 0).val % 32, by omega⟩ (i 1)) = i := by
    funext a
    match a with
    | ⟨0, _⟩ => exact Fin.ext (by show (i 0).val / 32 * 32 + (i 0).val % 32 = (i 0).val; omega)
    | ⟨1, _⟩ => rfl
  exact (congrArg f hi.symm).trans (e.trans (congrArg _ hi))

end Attn

end
-- ==== Proof.Talk.lean ====
/- The talk as a schedule of rounds: for every semaphore who pays how much in which round and what the payment hands over,
   with contents. Then what a device owes at launch, and the order in which waiting is allowed. -/
module

public import proofs.«01_k».proof.Proof.Contents
public import Idealize.ShloMosaic.Lib.Transfers

@[expose] public section

noncomputable section

namespace Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ UU ℕ
variable (m : (ℓ : Loc nD τ sig) → Buf (Elt F) ℓ) (ρ : Dev nD → PrngReg)

/-! ## Pieces of buffers -/

/-- Share `q` of the elements under `M` on device `c`, with contents of which `P` holds. -/
def held {S : Shape} (q : PosShare TreeShare) (M : Memref sig .tc .vmem S .f32) (c : Dev nD) (P : (S.Idx → F .f32) → Prop) : sProp 𝕄 :=
  iprop(∃ f : Buf (Elt F) (M.view.loc (c : Thread nD τ)), ⌜P (M.view.read (Elt F) f)⌝ ∗ (M.view.loc (c : Thread nD τ) ↦[M.view.set]{q} f))

/-- Any contents. -/
abbrev anyC {S : Shape} : (S.Idx → F .f32) → Prop := fun _ => True

omit [FloatOps F] in
instance held_storable {S : Shape} (q : PosShare TreeShare) (M : Memref sig .tc .vmem S .f32) (c : Dev nD) (P : (S.Idx → F .f32) → Prop) :
    BI.Storable (upEmb : UEmb _ 𝕄) (held q M c P) := by unfold held; infer_instance

omit [FloatOps F] in
/-- A piece held with some contents is held with anything they imply. -/
theorem held_mono {S : Shape} {q : PosShare TreeShare} {M : Memref sig .tc .vmem S .f32} {c : Dev nD} {P P' : (S.Idx → F .f32) → Prop} (h : ∀ f, P f → P' f) :
    (held q M c P : sProp 𝕄) ⊢ held q M c P' := by
  unfold held
  iintro ⟨%f, %hf, H⟩
  iexists f
  isplitr; · ipureintro; exact h _ hf
  iexact H

/-- Rows of the result on device `d`, at any contents. -/
abbrev anyRows (d k : Dev nD) : sProp 𝕄 := held (F := F) fullShare (mOc k) d anyC

/-- The places for a chunk's final rows that travel to the right with it: on every device it has passed. -/
def heldR : ℕ → Dev nD → sProp 𝕄
  | 0, c => anyRows c (chunkR c 0)
  | s + 1, c => iprop(anyRows c (chunkR c (s + 1)) ∗ heldR s (lft c))
/-- The places for a chunk's final rows that travel to the left with it. -/
def heldL : ℕ → Dev nD → sProp 𝕄
  | 0, c => anyRows c (chunkL c 0)
  | s + 1, c => iprop(anyRows c (chunkL c (s + 1)) ∗ heldL s (rgt c))

omit [FloatOps F] in
instance heldR_storable : ∀ (s : ℕ) (c : Dev nD), BI.Storable (upEmb : UEmb _ 𝕄) (heldR (F := F) s c)
  | 0, c => by unfold heldR; infer_instance
  | s + 1, c => by have := heldR_storable s (lft c); unfold heldR; infer_instance
omit [FloatOps F] in
instance heldL_storable : ∀ (s : ℕ) (c : Dev nD), BI.Storable (upEmb : UEmb _ 𝕄) (heldL (F := F) s c)
  | 0, c => by unfold heldL; infer_instance
  | s + 1, c => by have := heldL_storable s (rgt c); unfold heldL; infer_instance

/-- The share of its own rows a device lends to gathering copy `e`. -/
abbrev lent (e : Fin 31) : PosShare TreeShare := Transfers.shareTok fullShare 31 e

/-! ## The schedule -/

/-- The credit of a chunk's copy. -/
abbrev NA : ℕ := (mAc 0).view.dmaCredit
/-- The credit of a copy of rows of the result. -/
abbrev NO : ℕ := (mOc 0).view.dmaCredit

/-- A chunk of the accumulator counts for something. -/
theorem NA_pos : 0 < NA := View.dmaCredit_pos _ (by decide)
/-- The rows of a chunk of the result count for something. -/
theorem NO_pos : 0 < NO := View.dmaCredit_pos _ (by decide)

/-- How many rounds a cell has. -/
def span : Cell → ℕ
  | some .sr => 16
  | some .sl => 15
  | some (.idle _) => 0
  | _ => 1

/-- The units of one duty. -/
def unitsOf : Cell → ℕ
  | none => 1
  | some (.gs _) => NO
  | some (.gr _) => NO
  | some _ => NA

/-- Every cell's unit is positive. -/
theorem unitsOf_pos (k : Cell) : 0 < unitsOf k := by
  unfold unitsOf; split
  · exact Nat.one_pos
  · exact NO_pos
  · exact NO_pos
  · exact NA_pos

/-- The duties of a round. The barrier has two, `false` of the left neighbour and `true` of the right one. -/
def dutiesOf (k : Cell) (r : ℕ) : Finset Bool := if r < span k then (if k = none then Finset.univ else {false}) else ∅

/-- What a payment hands to device `c`. -/
def payOf : Cell → Dev nD → ℕ → Bool → sProp 𝕄
  | none, c, _, false => bigSep Finset.univ fun s : Fin 15 => held fullShare (mLs s) (lft c) anyC
  | none, c, _, true => bigSep Finset.univ fun s : Fin 16 => held fullShare (mRs s) (rgt c) anyC
  | some .sr, c, r, _ => held fullShare (mAc (chunkR c r)) c anyC
  | some .sl, c, r, _ => held fullShare (mAc (chunkL c r)) c anyC
  | some (.r s), c, _, _ => iprop(held fullShare (mRs s) c (Agree (sentRv m ρ s.val (lft c))) ∗ heldR s.val (lft c))
  | some (.l s), c, _, _ => iprop(held fullShare (mLs s) c (Agree (sentLv m ρ s.val (rgt c))) ∗ heldL s.val (rgt c))
  | some (.idle _), _, _, _ => iprop(emp)
  | some (.gs e), c, _, _ => held (lent e) (mOc c) c (· = outRows m ρ c)
  | some (.gr e), c, _, _ => held fullShare (mOc (rot (1 + e.val) c)) c (· = outRows m ρ (rot (1 + e.val) c))

/-- The schedule of the talk. -/
def talk : Rounds.Schedule (GSem nD τ sig) Bool 𝕄 where
  duties g r := (decode g.2).elim ∅ (dutiesOf · r)
  unitless _ := False
  amount g _ _ := (decode g.2).elim 1 unitsOf
  payload g r d := (decode g.2).elim iprop(emp) (payOf m ρ · g.1.1 r d)
  amount_pos g _ _ _ := by
    cases decode g.2 with
    | none => exact Nat.one_pos
    | some k => exact unitsOf_pos k

instance payOf_storable (k : Cell) (c : Dev nD) (r : ℕ) (d : Bool) : BI.Storable (upEmb : UEmb _ 𝕄) (payOf (F := F) m ρ k c r d) := by
  unfold payOf; split <;> infer_instance

instance talk_storable (g : GSem nD τ sig) (r : ℕ) (d : Bool) : BI.Storable (upEmb : UEmb _ 𝕄) ((talk (F := F) m ρ).payload g r d) := by
  show BI.Storable upEmb ((decode g.2).elim iprop(emp) (payOf m ρ · g.1.1 r d))
  cases decode g.2 with
  | none => show BI.Storable upEmb iprop(emp); infer_instance
  | some k => exact payOf_storable m ρ k g.1.1 r d

section Tables
variable (c : Dev nD) (k : Cell) (o : Own)

/-- The duties of a device's cell in a round. -/
theorem duties_cell (r : ℕ) : (talk (F := F) m ρ).duties (kcell (c, k)) r = dutiesOf k r := by
  show (decode (csem k)).elim ∅ (dutiesOf · r) = _; rw [decode_csem]; rfl
/-- What one duty of a device's cell counts. -/
theorem amount_cell (r : ℕ) (d : Bool) : (talk (F := F) m ρ).amount (kcell (c, k)) r d = unitsOf k := by
  show (decode (csem k)).elim 1 unitsOf = _; rw [decode_csem]; rfl
/-- What one duty of a device's cell hands over. -/
theorem payload_cell (r : ℕ) (d : Bool) : (talk (F := F) m ρ).payload (kcell (c, k)) r d = payOf m ρ k c r d := by
  show (decode (csem k)).elim iprop(emp) (payOf m ρ · c r d) = _; rw [decode_csem]; rfl

/-- An own cell has one duty in each of its rounds. -/
theorem dutiesOf_own {r : ℕ} (h : r < span (some o)) : dutiesOf (some o) r = {false} := by
  unfold dutiesOf; rw [if_pos h, if_neg (fun h => by cases h)]
/-- After its last round a cell has no duties. -/
theorem duties_after : ∀ r, span k ≤ r → (talk (F := F) m ρ).duties (kcell (c, k)) r = ∅ :=
  fun r hr => by rw [duties_cell]; unfold dutiesOf; rw [if_neg (by omega)]
/-- The one duty of an own cell is there in each of its rounds. -/
theorem mem_own {r : ℕ} (h : r < span (some o)) : false ∈ (talk (F := F) m ρ).duties (kcell (c, some o)) r := by
  rw [duties_cell, dutiesOf_own o h]; exact Finset.mem_singleton_self _
/-- Both duties of the barrier's cell are there. -/
theorem mem_bar (d : Bool) : d ∈ (talk (F := F) m ρ).duties (kcell (c, none)) 0 := by
  rw [duties_cell]; exact Finset.mem_univ _

/-- What a round of an own cell comes to: one unit. -/
theorem expect_own {r : ℕ} (h : r < span (some o)) : (talk (F := F) m ρ).expect (kcell (c, some o)) r = unitsOf (some o) := by
  unfold Schedule.expect Schedule.amountOf; rw [duties_cell, dutiesOf_own o h, Finset.sum_singleton, amount_cell]
/-- What the barrier comes to: two signals. -/
theorem expect_bar : (talk (F := F) m ρ).expect (kcell (c, none)) 0 = 2 := by
  unfold Schedule.expect Schedule.amountOf
  rw [duties_cell, Finset.sum_congr rfl fun d _ => amount_cell m ρ c none 0 d]; rfl

/-- All that an own cell's round hands over. -/
theorem rest_own {r : ℕ} (h : r < span (some o)) :
    bigSep ((talk (F := F) m ρ).duties (kcell (c, some o)) r \ ∅) (fun d => (talk (F := F) m ρ).payload (kcell (c, some o)) r d) = payOf m ρ (some o) c r false := by
  rw [Finset.sdiff_empty, duties_cell, dutiesOf_own o h, bigSep_singleton, payload_cell]
/-- All that the barrier's round hands over. -/
theorem rest_bar :
    bigSep ((talk (F := F) m ρ).duties (kcell (c, none)) 0 \ ∅) (fun d => (talk (F := F) m ρ).payload (kcell (c, none)) 0 d)
      = iprop(payOf m ρ none c 0 false ∗ payOf m ρ none c 0 true) := by
  rw [Finset.sdiff_empty, duties_cell, show dutiesOf none 0 = Finset.univ from rfl, bigSep_univ_eq_bigSepL [false, true] (by decide) (by decide), bigSepL_cons_cons,
    bigSepL_singleton, payload_cell, payload_cell]
  rfl

end Tables

/-! ## What a device owes, in the order it pays -/

/-- The entries of `f` from number `k` on. -/
def tail {n : ℕ} (f : Fin n → CellTallies nD τ sig Unit) (k : ℕ) : CellTallies nD τ sig Unit := ∑ i ∈ Finset.univ.filter (fun i : Fin n => k ≤ i.val), f i

/-- What is left from the `k`-th on is the `k`-th and what is left after it. -/
theorem tail_peel {n : ℕ} (f : Fin n → CellTallies nD τ sig Unit) (k : Fin n) : tail f k.val = tail f (k.val + 1) + f k := by
  unfold tail
  rw [show Finset.univ.filter (fun i : Fin n => k.val ≤ i.val) = insert k (Finset.univ.filter (fun i : Fin n => k.val + 1 ≤ i.val)) from by
    ext i; simp only [Finset.mem_filter, Finset.mem_univ, true_and, Finset.mem_insert, Fin.ext_iff]; omega,
    Finset.sum_insert (by simp), add_comm]
/-- Nothing is left after the last. -/
theorem tail_end {n : ℕ} (f : Fin n → CellTallies nD τ sig Unit) : tail f n = 0 := by
  unfold tail
  rw [show Finset.univ.filter (fun i : Fin n => n ≤ i.val) = ∅ from by ext i; simp, Finset.sum_empty]
/-- All are left at the start. -/
theorem tail_all {n : ℕ} (f : Fin n → CellTallies nD τ sig Unit) : tail f 0 = ∑ i, f i := by
  unfold tail; congr 1; ext i; simp

/-- The number under which the device `1 + e` places on knows this one. -/
abbrev opp (e : Fin 31) : Fin 31 := ⟨30 - e.val, by omega⟩

/-- Round `s` to the right. -/
abbrev dueR (c : Dev nD) (s : Fin 16) : CellTallies nD τ sig Unit := tallyAt (kcell (rgt c, some (.r s))) () NA
/-- Round `s` to the left. -/
abbrev dueL (c : Dev nD) (s : Fin 15) : CellTallies nD τ sig Unit := tallyAt (kcell (lft c, some (.l s))) () NA
/-- Gathering copy `e`. -/
abbrev dueG (c : Dev nD) (e : Fin 31) : CellTallies nD τ sig Unit := tallyAt (kcell (rot (1 + e.val) c, some (.gr (opp e)))) () NO

/-- Owed before gathering copy `e`. -/
def oweG (c : Dev nD) (e : ℕ) : CellTallies nD τ sig Unit := tail (dueG c) e
/-- Owed with rounds from `a` on to the right and from `b` on to the left still to come. -/
def oweRing (c : Dev nD) (a b : ℕ) : CellTallies nD τ sig Unit := oweG c 0 + tail (dueR c) a + tail (dueL c) b
/-- Owed after the first signal. -/
def owe₁ (c : Dev nD) : CellTallies nD τ sig Unit := oweRing c 0 0 + tallyAt (kcell (rgt c, none)) () 1
/-- Owed at launch. -/
def owe₀ (c : Dev nD) : CellTallies nD τ sig Unit := owe₁ c + tallyAt (kcell (lft c, none)) () 1

/-- What is owed to the gather before its `e`-th copy: that copy and what is owed after it. -/
theorem oweG_peel (c : Dev nD) (e : Fin 31) : oweG c e.val = oweG c (e.val + 1) + dueG c e := tail_peel _ e
/-- After its last copy nothing is owed to the gather. -/
theorem oweG_end (c : Dev nD) : oweG c 31 = 0 := tail_end _
/-- What is owed before round `s`'s copy to the right: that copy and what is owed after it. -/
theorem oweRing_peelR (c : Dev nD) (s : Fin 16) (b : ℕ) : oweRing c s.val b = oweRing c (s.val + 1) b + dueR c s := by
  unfold oweRing; rw [tail_peel (dueR c) s, ← add_assoc, add_right_comm]
/-- What is owed before round `s`'s copy to the left: that copy and what is owed after it. -/
theorem oweRing_peelL (c : Dev nD) (a : ℕ) (s : Fin 15) : oweRing c a s.val = oweRing c a (s.val + 1) + dueL c s := by
  unfold oweRing; rw [tail_peel (dueL c) s, ← add_assoc]
/-- After the last round only the gather is owed. -/
theorem oweRing_end (c : Dev nD) : oweRing c 16 15 = oweG c 0 := by unfold oweRing; rw [tail_end, tail_end, add_zero, add_zero]

/-! ## The order of waiting -/

/-- The level of a cell: a device waits only below all it owes. -/
def lvC : Cell → ℕ
  | none => 1
  | some (.r s) => 3 + 2 * s.val
  | some (.l s) => 4 + 2 * s.val
  | some (.gr _) => 100
  | some _ => 0

/-- The one level's name, on the semaphores of the main threads. -/
def L (g : GSem nD τ sig) : Finset Unit := if g.1.2 = .tc then {()} else ∅
/-- The level of a semaphore. -/
def lv (g : GSem nD τ sig) (_ : Unit) : ℕ := (decode g.2).elim 0 lvC

/-- Only the devices' main threads have levels. -/
theorem L_of_ne (g : GSem nD τ sig) (h : g.1.2 ≠ .tc) : L g = ∅ := if_neg h
/-- Every semaphore of a main thread has its one level. -/
theorem L_tc (c : Dev nD) (sm : SemLoc sig) : L ((c : Thread nD τ), sm) = {()} := if_pos rfl
/-- The level of a device's cell. -/
theorem lv_cell (c : Dev nD) (k : Cell) : lv (kcell (c, k)) () = lvC k := by
  show (decode (csem k)).elim 0 lvC = _; rw [decode_csem]; rfl

/-- Everything in `O` is owed to a TensorCore's cell above level `n`. -/
def Above (n : ℕ) (O : CellTallies nD τ sig Unit) : Prop := ∀ g u, 0 < O g u → g.1.2 = .tc ∧ n < lv g ()

/-- Owing nothing is above every level. -/
theorem Above.zero (n : ℕ) : Above n 0 := fun _ _ h => absurd h (Nat.lt_irrefl 0)
/-- Two debts above a level are together above it. -/
theorem Above.add {n : ℕ} {O O' : CellTallies nD τ sig Unit} (h : Above n O) (h' : Above n O') : Above n (O + O') := fun g u hg => by
  rw [Pi.add_apply, Finsupp.add_apply] at hg
  by_cases h0 : 0 < O g u
  · exact h g u h0
  · exact h' g u (by omega)
/-- A debt to one cell is above the levels below the cell's. -/
theorem Above.cell {n : ℕ} (c : Dev nD) (k : Cell) (a : ℕ) (h : n < lvC k) : Above n (tallyAt (kcell (c, k)) () a) := fun g u hg => by
  rw [tallyAt_apply] at hg
  by_cases e : g = kcell (c, k) ∧ u = ()
  · rw [e.1, lv_cell]; exact ⟨rfl, h⟩
  · rw [if_neg e] at hg; exact absurd hg (Nat.lt_irrefl 0)
/-- What is left of a family is above a level when each left member is. -/
theorem Above.tail {n N : ℕ} (f : Fin N → CellTallies nD τ sig Unit) (k : ℕ) (h : ∀ i, k ≤ i.val → Above n (f i)) : Above n (tail f k) := by
  unfold Attn.tail
  refine Finset.sum_induction _ (Above n) (fun _ _ => Above.add) (Above.zero n) fun i hi => h i ?_
  exact (Finset.mem_filter.mp hi).2

/-- What is owed to the gather is above every level below 100. -/
theorem above_G (c : Dev nD) (n e : ℕ) (h : n < 100) : Above n (oweG c e) := Above.tail _ _ fun i _ => Above.cell (rot (1 + i.val) c) (some (.gr (opp i))) NO h
/-- What is owed from rounds `a` and `b` on is above the levels of the rounds before. -/
theorem above_ring (c : Dev nD) (n a b : ℕ) (h : n < 100) (ha : n < 3 + 2 * a) (hb : n < 4 + 2 * b) : Above n (oweRing c a b) :=
  ((above_G c n 0 h).add (Above.tail _ _ fun i hi => Above.cell (rgt c) (some (.r i)) NA (show n < 3 + 2 * i.val by omega))).add
    (Above.tail _ _ fun i hi => Above.cell (lft c) (some (.l i)) NA (show n < 4 + 2 * i.val by omega))
/-- All that is owed at the launch is above level 0. -/
theorem above_launch (c : Dev nD) : Above 0 (owe₀ c) :=
  ((above_ring c 0 0 0 (by decide) (by decide) (by decide)).add (Above.cell (rgt c) none 1 Nat.one_pos)).add (Above.cell (lft c) none 1 Nat.one_pos)

/-- A device may wait at a semaphore below all it owes. -/
theorem mayWait_above (c : Dev nD) (sm : SemLoc sig) (n : ℕ) (O : CellTallies nD τ sig Unit) (hs : lv ((c : Thread nD τ), sm) () ≤ n) (h : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by
      obtain ⟨h1, _⟩ := h g u hg
      unfold L; rw [if_pos h1]; exact Finset.mem_singleton_self _)
    (fun p hp => by rw [Finset.mem_singleton.mp hp]; exact hs)
    (fun g u hg => (h g u hg).2)

/-- A device may wait on a cell when all it owes is above that cell's level. -/
theorem mayWait_cell (c : Dev nD) (k : Cell) (O : CellTallies nD τ sig Unit) (h : Above (lvC k) O) :
    (levAts L lv : sProp 𝕄) ⊢ MayWait (c : Thread nD τ) (csem k) () O :=
  mayWait_above c (csem k) (lvC k) O (le_of_eq (lv_cell c k)) h

end Attn

end
-- ==== Proof.Rules.lean ====
/- Rules for the kernel's steps: what a step needs and what it gives, one step after another, and a loop. -/
module

public import proofs.«01_k».proof.Proof.Talk

@[expose] public section

noncomputable section

namespace Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Pipeline (chain)

variable {F : FTy → Type} [FloatOps F]
local notation "𝕄" => MT nD τ sig Unit (Elt F) ℕ UU ℕ
variable (m : (ℓ : Loc nD τ sig) → Buf (Elt F) ℓ) (ρ : Dev nD → PrngReg)

/-- No loop variants. -/
abbrev 𝒱₀ : Variants := Variants.none

/-- The weakest precondition of a program on device `c`. -/
abbrev wpT (c : Dev nD) (p : TcProg F) (Q : PUnit → sProp 𝕄) : sProp 𝕄 :=
  wp frame (wpE (defs₀ (F := F)) 𝒱₀ (c : Thread nD τ) none) Set.univ p Q

/-- A program followed by another is verified one after the other. -/
theorem wpT_bind (c : Dev nD) (p p' : TcProg F) (Q : PUnit → sProp 𝕄) : wpT c (p >>= fun _ => p') Q = wpT c p fun _ => wpT c p' Q :=
  wp_bind frame (wpE (defs₀ (F := F)) 𝒱₀ (c : Thread nD τ) none) Set.univ p (fun _ => p') Q
/-- A program that does nothing reaches what already holds. -/
theorem wpT_pure (c : Dev nD) (Q : PUnit → sProp 𝕄) : wpT (F := F) c (pure ⟨⟩) Q = iprop(|={Set.univ}=> Q ⟨⟩) := rfl

/-- From `pre`, program `p` runs on device `c` to `post`. -/
def Triple (c : Dev nD) (pre : sProp 𝕄) (p : TcProg F) (post : sProp 𝕄) : Prop :=
  ∀ Q : PUnit → sProp 𝕄, pre ⊢ iprop((post -∗ Q ⟨⟩) -∗ wpT c p Q)

/-- A loop whose step number `k` takes `Cur k` and `Pre k` to `Cur (k + 1)` and `Post k`, `R` being knowledge. -/
theorem wp_loop (c : Dev nD) {n : ℕ} (R : sProp 𝕄) [BI.Persistent R] (Cur : ℕ → sProp 𝕄) (Pre Post : Fin n → sProp 𝕄) (step : Fin n → TcProg F)
    (h : ∀ k : Fin n, Triple c iprop(R ∗ Cur k.val ∗ Pre k) (step k) iprop(Cur (k.val + 1) ∗ Post k)) (l : List (Fin n)) (hl : l = List.finRange n) :
    Triple c iprop(R ∗ Cur 0 ∗ bigSep Finset.univ Pre) (chain (l.map step)) iprop(Cur n ∗ bigSep Finset.univ Post) := by
  subst hl
  rw [bigSep_univ_eq_bigSepL (List.finRange n) (by ext x; simp) (List.nodup_finRange n) Pre, bigSep_univ_eq_bigSepL (List.finRange n) (by ext x; simp) (List.nodup_finRange n) Post]
  suffices H : ∀ (l : List (Fin n)) (k : ℕ), k ≤ n → l = (List.finRange n).drop k →
      Triple c iprop(R ∗ Cur k ∗ bigSepL l Pre) (chain (l.map step)) iprop(Cur n ∗ bigSepL l Post) from H _ 0 (Nat.zero_le _) rfl
  intro l
  induction l with
  | nil =>
    intro k hk hl Q
    have : k = n := by
      have := congrArg List.length hl
      rw [List.length_drop, List.length_finRange, List.length_nil] at this; omega
    subst this
    show _ ⊢ iprop(_ -∗ wpT c (pure ⟨⟩) Q)
    iintro ⟨-, HC, HP⟩ Hk
    rw [wpT_pure]
    imodintro
    iapply Hk
    isplitl [HC]; · iexact HC
    iexact HP
  | cons a l ih =>
    intro k hk hl Q
    have hk' : k < n := by
      have := congrArg List.length hl
      rw [List.length_drop, List.length_finRange, List.length_cons] at this; omega
    rw [List.drop_eq_getElem_cons (by rw [List.length_finRange]; exact hk'), List.getElem_finRange] at hl
    obtain ⟨rfl, hl'⟩ := List.cons.inj hl
    have hb (Φ : Fin n → sProp 𝕄) : bigSepL ((⟨k, hk'⟩ : Fin n) :: l) Φ = iprop(Φ ⟨k, hk'⟩ ∗ bigSepL l Φ) := bigSepL_cons ..
    rw [show ((Fin.cast (List.length_finRange) ⟨k, by rw [List.length_finRange]; exact hk'⟩ : Fin n)) = ⟨k, hk'⟩ from rfl, List.map_cons, Pipeline.chain_cons, hb, hb]
    show _ ⊢ iprop(_ -∗ wpT c _ Q)
    rw [wpT_bind]
    iintro ⟨#HR, HC, HP, HPs⟩ Hk
    iapply (h ⟨k, hk'⟩ _) $$ [HC HP]
    · isplitr; · iexact HR
      isplitl [HC] <;> iassumption
    iintro ⟨HC, HP⟩
    iapply (ih (k + 1) hk' hl' Q) $$ [HC HPs]
    · isplitr; · iexact HR
      isplitl [HC] <;> iassumption
    iintro ⟨HC, HPs⟩
    iapply Hk
    isplitl [HC]; · iexact HC
    isplitl [HP] <;> iassumption

/-- The levels of all cells, as knowledge. -/
def levs : sProp 𝕄 := levAts L lv
omit [FloatOps F] in
instance levs_persistent : BI.Persistent (levs (F := F)) := by unfold levs; infer_instance

/-- What every device knows: the talk's cells exist, all have reached round 0, and the levels. -/
def recs (K : Dev nD × Cell → ℕ) : sProp 𝕄 :=
  iprop((bigSep Finset.univ fun ck : Dev nD × Cell => cellInv ER (talk m ρ) (K ck) (kcell ck))
    ∗ (bigSep Finset.univ fun ck : Dev nD × Cell => reached ER (kcell ck) 0) ∗ levs)

instance recs_persistent (K : Dev nD × Cell → ℕ) : BI.Persistent (recs m ρ K) := by unfold recs; infer_instance

/-- The records have every cell's invariant. -/
theorem inv_at (K : Dev nD × Cell → ℕ) (ck : Dev nD × Cell) : (recs m ρ K : sProp 𝕄) ⊢ cellInv ER (talk m ρ) (K ck) (kcell ck) := by
  unfold recs
  iintro ⟨H, -, -⟩
  have h : (bigSep Finset.univ fun ck : Dev nD × Cell => (cellInv ER (talk m ρ) (K ck) (kcell ck) : sProp 𝕄)) ⊢ cellInv ER (talk m ρ) (K ck) (kcell ck) := bigSep_elim (Finset.mem_univ ck)
  iapply h; iexact H
/-- The records say that every cell has reached round 0. -/
theorem reached_at (K : Dev nD × Cell → ℕ) (ck : Dev nD × Cell) : (recs m ρ K : sProp 𝕄) ⊢ reached ER (kcell ck) 0 := by
  unfold recs
  iintro ⟨-, H, -⟩
  have h : (bigSep Finset.univ fun ck : Dev nD × Cell => (reached ER (kcell ck) 0 : sProp 𝕄)) ⊢ reached ER (kcell ck) 0 := bigSep_elim (Finset.mem_univ ck)
  iapply h; iexact H
/-- The records allow a wait on a cell below everything owed. -/
theorem wait_at (K : Dev nD × Cell → ℕ) (c : Dev nD) (k : Cell) (O : CellTallies nD τ sig Unit) (h : Above (lvC k) O) :
    (recs m ρ K : sProp 𝕄) ⊢ MayWait (c : Thread nD τ) (csem k) () O := by
  unfold recs levs
  iintro ⟨-, -, H⟩
  have hw := mayWait_cell (F := F) c k O h
  iapply hw; iexact H

/-- Device `c` owes `O`. -/
def owing (c : Dev nD) (O : CellTallies nD τ sig Unit) : sProp 𝕄 := iprop(∃ W, owes (c : Thread nD τ) O W)

/-- Waiting for the whole of round `r` of one's own cell `o`: what was paid in it arrives. -/
theorem wait_own (K : Dev nD × Cell → ℕ) (c : Dev nD) (o : Own) (r : ℕ) (hr : r < span (some o)) {q : DmaSem sig} (hq : osem o = .dma q)
    {sp sp' : Space} {S S' : Shape} {e e' : EltTy} {src : Memref sig .tc sp' S' e'} {dst : Memref sig .tc sp S e} {hs : src.view.WordExact} {hd : dst.view.WordExact}
    (hN : dst.view.dmaCredit = unitsOf (some o)) (O : CellTallies nD τ sig Unit) (hO : Above (lvC (some o)) O) :
    Triple c iprop(recs m ρ K ∗ cred (tallyAt (kcell (c, some o)) () (unitsOf (some o))) ∗ owing c O ∗ atPos ER (kcell (c, some o)) r ∅ 0)
      (Prog.lift (.waitDma2 q src dst hs hd))
      iprop(owing c O ∗ atPos ER (kcell (c, some o)) (r + 1) ∅ 0 ∗ reached ER (kcell (c, some o)) (r + 1) ∗ payOf m ρ (some o) c r false) := by
  intro Q
  have hx := expect_own (F := F) m ρ c o hr
  have hp := rest_own (F := F) m ρ c o hr
  have hw := wait_at (F := F) m ρ K c (some o) O hO
  have hi := inv_at (F := F) m ρ K (c, some o)
  have hk : kcell (c, some o) = ((c : Thread nD τ), .dma q) := by show ((c : Thread nD τ), osem o) = _; rw [hq]
  have hcs : csem (some o) = .dma q := hq
  rw [hk] at hx hp hi ⊢
  rw [hcs] at hw
  rw [← hN] at hx ⊢
  show _ ⊢ iprop(_ -∗ wpT c (Prog.op (.waitDma2 q src dst hs hd) .ret) Q)
  unfold owing
  iintro ⟨#HR, Hc, ⟨%W, HO⟩, Hat⟩ Hk
  ihave #HI := hi $$ HR
  iapply (Rounds.wp_wait_rest_token 𝒱₀ ER (talk m ρ) (c : Thread nD τ) none (κ := K (c, some o)) (sm := .dma q) (k' := dst.view.dmaCredit)
      (wpE_waitDma2_eq 𝒱₀ (c : Thread nD τ) none Set.univ) (Set.mem_univ _) () (O := O) (W := W) (R := r) (m := 0) (T := ∅)
      ((Nat.zero_add _).trans hx.symm)) $$ [Hc HO Hat]
  · isplitr; · iexact HI
    isplitl [Hc]; · iexact Hc
    isplitl [HO]; · iexact HO
    isplitr; · iapply hw; iexact HR
    iexact Hat
  iintro ⟨HO, Hat, Hr, Hpay⟩
  ihave Hp := (Entails.of_eq hp) $$ Hpay
  rw [wp_ret]; imodintro
  iapply Hk
  isplitl [HO]; · iexists _; iexact HO
  isplitl [Hat]; · iexact Hat
  isplitl [Hr]; · iexact Hr
  iexact Hp

/-- Sending share `q'` of a piece to another device's cell `o₂`, reported at one's own cell `o₁`: the piece is lent until the
    report, what lands goes with the payment. -/
theorem send_own (K : Dev nD × Cell → ℕ) (c d : Dev nD) (o₁ o₂ : Own) (r₁ : ℕ) (hr₁ : r₁ < span (some o₁)) (hr₂ : 0 < span (some o₂)) {q₁ q₂ : DmaSem sig}
    (hq₁ : osem o₁ = .dma q₁) (hq₂ : osem o₂ = .dma q₂) {S : Shape} {src dst : Memref sig .tc .vmem S .f32} {hs : src.view.WordExact} {hd : dst.view.WordExact}
    {hsc : dst.view.ref.isScScratch = false} {hsem : DmaTarget.Typed .vmem (.dma q₂) (.remote (Dev.tc d : Thread nD τ) dst (.dma q₁) hsc)}
    (N : ℕ) (hN : dst.view.amount (.dma q₂) = N) (hk₁ : unitsOf (some o₁) = N) (hk₂ : unitsOf (some o₂) = N)
    {O₀ : CellTallies nD τ sig Unit} (O : CellTallies nD τ sig Unit) (hO : O₀ = O + tallyAt (kcell (d, some o₂)) () N)
    (q' : PosShare TreeShare) (P : (S.Idx → F .f32) → Prop) (G : sProp 𝕄)
    (hpay₁ : held q' src c P ⊢ payOf m ρ (some o₁) c r₁ false)
    (hpay₂ : iprop(held fullShare dst d P ∗ G) ⊢ payOf m ρ (some o₂) d 0 false) :
    Triple c iprop(recs m ρ K ∗ held q' src c P ∗ held fullShare dst d anyC ∗ G ∗ owing c O₀
        ∗ dutyTok ER (kcell (c, some o₁)) r₁ false ∗ reached ER (kcell (c, some o₁)) r₁ ∗ dutyTok ER (kcell (d, some o₂)) 0 false)
      (Prog.lift (.enqueueDma src (.remote (Dev.tc d : Thread nD τ) dst (.dma q₁) hsc) (.dma q₂) hs hd hsem))
      iprop(cred (tallyAt (kcell (c, some o₁)) () N) ∗ owing c O) := by
  intro Q
  have hd₁ := mem_own (F := F) m ρ c o₁ hr₁
  have hd₂ := mem_own (F := F) m ρ d o₂ hr₂
  have ha₁ := (amount_cell (F := F) m ρ c (some o₁) r₁ false).trans hk₁
  have ha₂ := (amount_cell (F := F) m ρ d (some o₂) 0 false).trans hk₂
  have hp₁ := payload_cell (F := F) m ρ c (some o₁) r₁ false
  have hp₂ := payload_cell (F := F) m ρ d (some o₂) 0 false
  have hi₁ := inv_at (F := F) m ρ K (c, some o₁)
  have hi₂ := inv_at (F := F) m ρ K (d, some o₂)
  have hr := reached_at (F := F) m ρ K (d, some o₂)
  have e₁ : kcell (c, some o₁) = ((c : Thread nD τ), .dma q₁) := by show ((c : Thread nD τ), osem o₁) = _; rw [hq₁]
  have e₂ : kcell (d, some o₂) = ((d : Thread nD τ), .dma q₂) := by show ((d : Thread nD τ), osem o₂) = _; rw [hq₂]
  rw [e₁] at hd₁ ha₁ hp₁ hi₁ ⊢
  rw [e₂] at hd₂ ha₂ hp₂ hi₂ hr hO ⊢
  show _ ⊢ iprop(_ -∗ wpT c (Prog.op (.enqueueDma src (.remote (Dev.tc d : Thread nD τ) dst (.dma q₁) hsc) (.dma q₂) hs hd hsem) .ret) Q)
  unfold owing
  iintro ⟨#HR, Hs, Hd, HG, ⟨%W, HO⟩, Ht₁, Hr₁, Ht₂⟩ Hk
  ihave #HI₁ := hi₁ $$ HR
  ihave #HI₂ := hi₂ $$ HR
  ihave #Hr₂ := hr $$ HR
  unfold held at *
  icases Hs with ⟨%fs, %hfs, Hs⟩
  icases Hd with ⟨%fd, -, Hd⟩
  iapply (Rounds.wp_send_pointsTo_with 𝒱₀ ER (talk m ρ) (c : Thread nD τ) none (κ₁ := K (c, some o₁)) (κ₂ := K (d, some o₂))
      (r₁ := r₁) (r₂ := 0) (d₁ := false) (d₂ := false) (q := q') (fs := fs) (fd := fd) (F := G) hd₁ hd₂ () () N hN ha₁ ha₂ O hO (W := W)
      (by
        rw [hp₁]; refine BIBase.Entails.trans ?_ hpay₁
        iintro H
        iexists fs
        isplitr; · ipureintro; exact hfs
        iexact H)
      (by
        rw [hp₂]; refine BIBase.Entails.trans (sep_mono_left ?_) hpay₂
        iintro H
        iexists _
        isplitr
        rotate_left
        · iexact H
        · ipureintro; rw [View.read_write_univ]; exact hfs)) $$ [Hs Hd HG HO Ht₁ Hr₁ Ht₂]
  · isplitr; · iexact HI₁
    isplitr; · iexact HI₂
    isplitl [Hs]; · iexact Hs
    isplitl [Hd HG]
    · isplitl [Hd] <;> iassumption
    isplitl [HO]; · iexact HO
    isplitl [Ht₁]; · iexact Ht₁
    isplitl [Hr₁]; · iexact Hr₁
    isplitl [Ht₂]; · iexact Ht₂
    iexact Hr₂
  iintro ⟨Hc, HO⟩
  rw [wp_ret]; imodintro
  iapply Hk
  isplitl [Hc]; · iexact Hc
  iexists _; iexact HO

end Attn

end
-- ==== Proof.Gather.lean ====
/- The gathering phase: a device copies its rows to all others, waits for theirs, and then for its own copies. -/
module

public import proofs.«01_k».proof.Proof.Rules

@[expose] public section

noncomputable section

namespace Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Pipeline (chain)

variable {F : FTy → Type} [FloatOps F]
local notation "𝕄" => MT nD τ sig Unit (Elt F) ℕ UU ℕ
variable (m : (ℓ : Loc nD τ sig) → Buf (Elt F) ℓ) (ρ : Dev nD → PrngReg)
variable (K : Dev nD × Cell → ℕ) (c : Dev nD)

/-- Rows of the result that have their final values. -/
abbrev doneRows (d k : Dev nD) : sProp 𝕄 := held fullShare (mOc k) d (· = outRows m ρ k)
/-- A share of the device's own rows. -/
abbrev lentRows (e : Fin 31) : sProp 𝕄 := held (lent e) (mOc c) c (· = outRows m ρ c)

/-- The `opp e`-th other device, seen from the `e`-th other device, is this one. -/
theorem opp_back (e : Fin 31) : rot (1 + (opp e).val) (rot (1 + e.val) c) = c := by
  rw [rot_rot]; exact rot_zero _ c (by show (1 + (30 - e.val) + (1 + e.val)) % 32 = 0; omega)

/-- What a gathering copy's arrival hands over: the finished rows of the device `1 + e` further on. -/
theorem payOf_gr (d : Dev nD) (e : Fin 31) (r : ℕ) (b : Bool) : payOf m ρ (some (.gr e)) d r b = doneRows m ρ d (rot (1 + e.val) d) := rfl
/-- What the report of a gathering copy's send hands back: the lent share of the own rows. -/
theorem payOf_gs (d : Dev nD) (e : Fin 31) (r : ℕ) (b : Bool) : payOf m ρ (some (.gs e)) d r b = lentRows m ρ d e := rfl

/-- What gathering copy `e` takes besides knowledge and what is owed. -/
def sendPre (e : Fin 31) : sProp 𝕄 :=
  iprop(lentRows m ρ c e ∗ anyRows (rot (1 + e.val) c) c ∗ dutyTok ER (kcell (c, some (.gs e))) 0 false ∗ dutyTok ER (kcell (rot (1 + e.val) c, some (.gr (opp e)))) 0 false)

/-- One gathering copy. -/
theorem gatherSend_triple (e : Fin 31) :
    Triple c iprop(recs m ρ K ∗ owing c (oweG c e.val) ∗ sendPre m ρ c e) (gatherSend c e)
      iprop(owing c (oweG c (e.val + 1)) ∗ cred (tallyAt (kcell (c, some (.gs e))) () NO)) := by
  have h := send_own m ρ K c (onBy c e) (.gs e) (.gr (opp e)) 0 Nat.one_pos Nat.one_pos (q₁ := gsSem (fwd e)) (q₂ := grSem (bwd e)) rfl
    (by show SemLoc.dma (grSem (fwd (opp e))) = _; rw [show fwd (opp e) = bwd e from Fin.ext (by show 1 + (30 - e.val) = 31 - e.val; omega)])
    (src := mOwn c) (dst := mOwn c)
    (hs := View.wordExact_bits rfl) (hd := View.wordExact_bits rfl) (hsc := rfl) (hsem := ⟨⟨rfl, Or.inl rfl⟩, trivial⟩) NO rfl rfl rfl (O₀ := oweG c e.val) (oweG c (e.val + 1))
    (by rw [onBy_eq]; exact oweG_peel c e) (lent e) (· = outRows m ρ c) iprop(emp)
    (by rw [mOwn_eq, payOf_gs])
    (by
      rw [mOwn_eq, onBy_eq, payOf_gr, opp_back]
      iintro ⟨H, -⟩
      iexact H)
  rw [show (held (lent e) (mOwn c) c (· = outRows m ρ c) : sProp 𝕄) = lentRows m ρ c e from by rw [mOwn_eq],
    show (held fullShare (mOwn c) (onBy c e) anyC : sProp 𝕄) = anyRows (rot (1 + e.val) c) c from by rw [mOwn_eq, onBy_eq],
    show (dutyTok ER (kcell (onBy c e, some (.gr (opp e)))) 0 false : sProp 𝕄) = dutyTok ER (kcell (rot (1 + e.val) c, some (.gr (opp e)))) 0 false from by rw [onBy_eq]] at h
  intro Q
  unfold sendPre
  iintro ⟨#HR, HO, Hs, Hd, Ht, Ht'⟩ Hk
  have hr := reached_at m ρ K (c, some (.gs e))
  iapply (h Q) $$ [HO Hs Hd Ht Ht']
  · isplitr; · iexact HR
    isplitl [Hs]; · iexact Hs
    isplitl [Hd]; · iexact Hd
    isplitr; · iempintro
    isplitl [HO]; · iexact HO
    isplitl [Ht]; · iexact Ht
    isplitr; · iapply hr; iexact HR
    iexact Ht'
  iintro ⟨Hc, HO⟩
  iapply Hk
  isplitl [HO]; · iexact HO
  iexact Hc

/-- Waiting for the rows of another device. -/
theorem gatherRecv_triple (e : Fin 31) :
    Triple c iprop(recs m ρ K ∗ owing c 0 ∗ (cred (tallyAt (kcell (c, some (.gr e))) () NO) ∗ atPos ER (kcell (c, some (.gr e))) 0 ∅ 0)) (gatherRecv c e)
      iprop(owing c 0 ∗ (atPos ER (kcell (c, some (.gr e))) 1 ∅ 0 ∗ doneRows m ρ c (rot (1 + e.val) c))) := by
  intro Q
  unfold gatherRecv
  iintro ⟨#HR, HO, Hc, Hp⟩ Hk
  iapply (wait_own m ρ K c (.gr e) 0 Nat.one_pos (q := grSem (fwd e)) rfl (dst := mOther c e) rfl 0 (Above.zero _) _) $$ [HO Hc Hp]
  · isplitr; · iexact HR
    isplitl [Hc]; · iexact Hc
    isplitl [HO]; · iexact HO
    iexact Hp
  rw [payOf_gr]
  iintro ⟨HO, Hp, -, Hpay⟩
  iapply Hk
  isplitl [HO]; · iexact HO
  isplitl [Hp]; · iexact Hp
  iexact Hpay

/-- Waiting for one of the device's own copies. -/
theorem gatherSent_triple (e : Fin 31) :
    Triple c iprop(recs m ρ K ∗ owing c 0 ∗ (cred (tallyAt (kcell (c, some (.gs e))) () NO) ∗ atPos ER (kcell (c, some (.gs e))) 0 ∅ 0)) (gatherSent c e)
      iprop(owing c 0 ∗ (atPos ER (kcell (c, some (.gs e))) 1 ∅ 0 ∗ lentRows m ρ c e)) := by
  intro Q
  unfold gatherSent
  iintro ⟨#HR, HO, Hc, Hp⟩ Hk
  iapply (wait_own m ρ K c (.gs e) 0 Nat.one_pos (q := gsSem (fwd e)) rfl (dst := mOwn c) rfl 0 (Above.zero _) _) $$ [HO Hc Hp]
  · isplitr; · iexact HR
    isplitl [Hc]; · iexact Hc
    isplitl [HO]; · iexact HO
    iexact Hp
  rw [payOf_gs]
  iintro ⟨HO, Hp, -, Hpay⟩
  iapply Hk
  isplitl [HO]; · iexact HO
  isplitl [Hp]; · iexact Hp
  iexact Hpay

/-- The gathering phase after the copies' own waits. -/
theorem gather_triple :
    Triple c iprop(recs m ρ K ∗ owing c (oweG c 0) ∗ bigSep Finset.univ (sendPre m ρ c)
        ∗ (bigSep Finset.univ fun e : Fin 31 => iprop(cred (tallyAt (kcell (c, some (.gr e))) () NO) ∗ atPos ER (kcell (c, some (.gr e))) 0 ∅ 0))
        ∗ (bigSep Finset.univ fun e : Fin 31 => atPos ER (kcell (c, some (.gs e))) 0 ∅ 0))
      (do chain (places.map (gatherSend c)); chain (places.map (gatherRecv c)); chain (places.map (gatherSent c)))
      iprop(owing c 0 ∗ (bigSep Finset.univ fun e : Fin 31 => iprop(atPos ER (kcell (c, some (.gr e))) 1 ∅ 0 ∗ doneRows m ρ c (rot (1 + e.val) c)))
        ∗ (bigSep Finset.univ fun e : Fin 31 => iprop(atPos ER (kcell (c, some (.gs e))) 1 ∅ 0 ∗ lentRows m ρ c e))) := by
  have h1 := wp_loop c (recs m ρ K) (fun e => owing c (oweG c e)) (sendPre m ρ c) (fun e => cred (tallyAt (kcell (c, some (.gs e))) () NO)) (gatherSend c)
    (gatherSend_triple m ρ K c) places (by decide)
  have h2 := wp_loop c (recs m ρ K) (fun _ => owing c 0) _ _ (gatherRecv c) (gatherRecv_triple m ρ K c) places (by decide)
  have h3 := wp_loop c (recs m ρ K) (fun _ => owing c 0) _ _ (gatherSent c) (gatherSent_triple m ρ K c) places (by decide)
  rw [oweG_end] at h1
  rw [bigSep_sep'] at h3
  intro Q
  simp only [wpT_bind]
  iintro ⟨#HR, HO, Hs, Hr, Hp⟩ Hk
  iapply (h1 _) $$ [HO Hs]
  · isplitr; · iexact HR
    isplitl [HO]; · iexact HO
    iexact Hs
  iintro ⟨HO, Hc⟩
  iapply (h2 _) $$ [HO Hr]
  · isplitr; · iexact HR
    isplitl [HO]; · iexact HO
    iexact Hr
  iintro ⟨HO, Hr⟩
  iapply (h3 _) $$ [HO Hc Hp]
  · isplitr; · iexact HR
    isplitl [HO]; · iexact HO
    isplitl [Hc]; · iexact Hc
    iexact Hp
  iintro ⟨HO, Hs⟩
  iapply Hk
  isplitl [HO]; · iexact HO
  isplitl [Hr]; · iexact Hr
  iexact Hs

end Attn

end
-- ==== Proof.Local.lean ====
/- The local attention: the queries, then head after head the sums over the device's own keys, into the accumulator. -/
module

public import proofs.«01_k».proof.Proof.Rules
public import Idealize.ShloMosaic.Lib.Pipeline.Value

@[expose] public section

noncomputable section

namespace Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Pipeline (chain)

variable {F : FTy → Type} [FloatOps F]
local notation "𝕄" => MT nD τ sig Unit (Elt F) ℕ UU ℕ
variable (m : (ℓ : Loc nD τ sig) → Buf (Elt F) ℓ) (ρ : Dev nD → PrngReg) (c : Dev nD)

/-- A list of steps, each of which adds its item to the list of those done. -/
theorem wp_list {α : Type} (Cur : List α → sProp 𝕄) (step : α → TcProg F) : ∀ (l : List α)
    (_ : ∀ a ∈ l, ∀ done, Triple c (Cur done) (step a) (Cur (a :: done))) (done : List α),
    Triple c (Cur done) (chain (l.map step)) (Cur (l.reverse ++ done))
  | [], _, done, Q => by
    rw [List.reverse_nil, List.nil_append]
    show _ ⊢ iprop(_ -∗ wpT c (pure ⟨⟩) Q)
    iintro HC Hk
    rw [wpT_pure]
    imodintro
    iapply Hk
    iexact HC
  | a :: l, h, done, Q => by
    rw [List.map_cons, Pipeline.chain_cons, List.reverse_cons, List.append_assoc]
    show _ ⊢ iprop(_ -∗ wpT c _ Q)
    rw [wpT_bind]
    iintro HC Hk
    iapply (h a (List.mem_cons_self ..) done _) $$ HC
    iintro HC
    iapply (wp_list Cur step l (fun a' ha' => h a' (List.mem_cons_of_mem _ ha')) (a :: done) Q) $$ HC
    iexact Hk

/-! ## What the accumulator holds -/

/-- The accumulator holds the local sums where `P` says so, in columns 0 to 1031. -/
def Upto (P : S1024x1152.Idx → Prop) (f : (cc0_scratch0 : Ref sig .tc).ty.Contents (Elt F)) : Prop :=
  ∀ i : S1024x1152.Idx, (i 1).val < 1032 → P i → f i = locA m ρ c i

variable {m ρ c} in
/-- What holds on a set of places holds on a smaller one. -/
theorem Upto.mono {P P' : S1024x1152.Idx → Prop} {f : (cc0_scratch0 : Ref sig .tc).ty.Contents (Elt F)} (h : Upto m ρ c P f)
    (hP : ∀ i : S1024x1152.Idx, (i 1).val < 1032 → P' i → P i) : Upto m ρ c P' f := fun i hi hi' => h i hi (hP i hi hi')

variable {m ρ c} in
/-- Storing a block of local sums. -/
theorem Upto.store {P : S1024x1152.Idx → Prop} {f : (cc0_scratch0 : Ref sig .tc).ty.Contents (Elt F)} (h : Upto m ρ c P f)
    (off size : Fin 2 → ℕ) (inb : ∀ a, off a + size a ≤ S1024x1152.size a) (w : (Rect.unit (s := S1024x1152) off size inb).shape.Idx → F .f32)
    (hw : ∀ (i : S1024x1152.Idx) (hin : ∀ a, off a ≤ (i a).val ∧ (i a).val < off a + size a),
      w (fun a => ⟨(i a).val - off a, by have := hin a; show _ < size a; omega⟩) = locA m ρ c i) :
    Upto m ρ c (fun i => P i ∨ ∀ a, off a ≤ (i a).val ∧ (i a).val < off a + size a)
      ((mA.access (Rect.unit (s := S1024x1152) off size inb)).write (Elt F) f w Finset.univ) := by
  intro i hi hP
  refine (congrFun (View.write_whole_slice_unit (Val := Elt F) cc0_scratch0 off size inb f w) i).trans ?_
  unfold updateSlice
  split
  · next hin => exact hw i hin
  · next hout => exact h i hi (hP.resolve_right hout)

/-- The entries of a stored block of numerators are the local sums at those places. -/
theorem num_at (b : Fin 4) (h : Fin 8) (i : S1024x1152.Idx)
    (hin : ∀ a, (![b.val * 256, h.val * 128] : Fin 2 → ℕ) a ≤ (i a).val ∧ (i a).val < (![b.val * 256, h.val * 128] : Fin 2 → ℕ) a + S256x128.size a) :
    numAt m ρ c b h (fun a => ⟨(i a).val - (![b.val * 256, h.val * 128] : Fin 2 → ℕ) a, by have := hin a; omega⟩) = locA m ρ c i := by
  have h0 : b.val * 256 ≤ (i 0).val ∧ (i 0).val < b.val * 256 + 256 := hin 0
  have h1 : h.val * 128 ≤ (i 1).val ∧ (i 1).val < h.val * 128 + 128 := hin 1
  have hb : batchOf (i 0) = b := Fin.ext (by show (i 0).val / 256 = _; omega)
  have hh : headOf (i 1).val = h := by unfold headOf; rw [dif_pos (by omega)]; exact Fin.ext (by show (i 1).val / 128 = _; omega)
  unfold locA
  rw [if_pos (by omega), hb, hh]
  refine congrArg (numAt m ρ c b h) (funext fun a => ?_)
  match a with
  | ⟨0, _⟩ => exact Fin.ext (by show (i 0).val - b.val * 256 = (i 0).val % 256; omega)
  | ⟨1, _⟩ => exact Fin.ext (by show (i 1).val - h.val * 128 = (i 1).val % 128; omega)

/-- The entries of a stored column of denominators are the local sums at those places. -/
theorem den_at (b : Fin 4) (h : Fin 8) (i : S1024x1152.Idx)
    (hin : ∀ a, (![b.val * 256, 1024 + h.val] : Fin 2 → ℕ) a ≤ (i a).val ∧ (i a).val < (![b.val * 256, 1024 + h.val] : Fin 2 → ℕ) a + S256x1.size a) :
    denAt m ρ c b h (fun a => ⟨(i a).val - (![b.val * 256, 1024 + h.val] : Fin 2 → ℕ) a, by have := hin a; omega⟩) = locA m ρ c i := by
  have h0 : b.val * 256 ≤ (i 0).val ∧ (i 0).val < b.val * 256 + 256 := hin 0
  have h1 : 1024 + h.val ≤ (i 1).val ∧ (i 1).val < 1024 + h.val + 1 := hin 1
  have hb : batchOf (i 0) = b := Fin.ext (by show (i 0).val / 256 = _; omega)
  have hh : headOf (i 1).val = h := by unfold headOf; rw [dif_neg (by omega)]; exact Fin.ext (by show ((i 1).val - 1024) % 8 = _; omega)
  unfold locA
  rw [if_neg (by omega), hb, hh]
  refine congrArg (denAt m ρ c b h) (funext fun a => ?_)
  match a with
  | ⟨0, _⟩ => exact Fin.ext (by show (i 0).val - b.val * 256 = (i 0).val % 256; omega)
  | ⟨1, _⟩ => exact Fin.ext (by show (i 1).val - (1024 + h.val) = 0; omega)

/-! ## The steps -/

/-- The queries, with the accumulator where `P` says so. -/
def accQ (P : S1024x1152.Idx → Prop) : sProp 𝕄 :=
  iprop((((c : Thread nD τ).loc cc0_stg5_0) ↦{fullShare} qAll m ρ c) ∗ ∃ f, ⌜Upto m ρ c P f⌝ ∗ (((c : Thread nD τ).loc cc0_scratch0) ↦{fullShare} f))

/-- The entries of the accumulator that belong to head `h` of batch `b`. -/
def mine (b : Fin 4) (h : Fin 8) (i : S1024x1152.Idx) : Prop := batchOf (i 0) = b ∧ headOf (i 1).val = h

/-- One head of one batch. -/
theorem head_triple (b : Fin 4) (h : Fin 8) (P : S1024x1152.Idx → Prop) :
    Triple c (accQ m ρ c P) (headStep b (kBlk m ρ c b (grp h)) (vBlk m ρ c b (grp h)) h) (accQ m ρ c (fun i => P i ∨ mine b h i)) := by
  intro Q
  unfold headStep accQ
  show _ ⊢ iprop(_ -∗ wp frame (wpE (defs₀ (F := F)) 𝒱₀ (c : Thread nD τ) none) Set.univ _ Q)
  simp only [Prog.lift, Prog.bind_op, Prog.bind_ret, Prog.pure_eq_ret]
  iintro ⟨HQ, ⟨%f, %hf, HA⟩⟩ Hk
  iapply (wp_load 𝒱₀ (c : Thread nD τ) none Set.univ (m := mO) (S := Finset.univ) (Finset.subset_univ _)) $$ HQ; iintro HQ
  iapply (wp_load 𝒱₀ (c : Thread nD τ) none Set.univ (m := mA) (S := Finset.univ) (Finset.subset_univ _)) $$ HA; iintro HA
  iapply (wp_store 𝒱₀ (c : Thread nD τ) none Set.univ (m := mA) (r := Rect.unit (s := S1024x1152) ![b.val * 256, h.val * 128] S256x128.size (inbN b h)) (Mk := Finset.univ) (S := Finset.univ) (Finset.subset_univ _)) $$ HA; iintro HA
  iapply (wp_load 𝒱₀ (c : Thread nD τ) none Set.univ (m := mA) (S := Finset.univ) (Finset.subset_univ _)) $$ HA; iintro HA
  iapply (wp_store 𝒱₀ (c : Thread nD τ) none Set.univ (m := mA) (r := Rect.unit (s := S1024x1152) ![b.val * 256, 1024 + h.val] S256x1.size (inbD b h)) (Mk := Finset.univ) (S := Finset.univ) (Finset.subset_univ _)) $$ HA; iintro HA
  rw [wp_ret]; imodintro
  iapply Hk
  isplitl [HQ]; · iexact HQ
  iexists _
  isplitr
  rotate_left
  · iexact HA
  · ipureintro
    refine Upto.mono (((hf.store ![b.val * 256, h.val * 128] S256x128.size (inbN b h) (numAt m ρ c b h) (num_at m ρ c b h)).store
      ![b.val * 256, 1024 + h.val] S256x1.size (inbD b h) (denAt m ρ c b h) (den_at m ρ c b h))) fun i hi hP => ?_
    rcases hP with hP | ⟨rfl, rfl⟩
    · exact .inl (.inl hP)
    · have h0 : (i 0).val < 1024 := idx2_lt0 i
      by_cases h1 : (i 1).val < 1024
      · refine .inl (.inr fun a => ?_)
        have hh : (headOf (i 1).val).val = (i 1).val / 128 := by unfold headOf; rw [dif_pos h1]
        match a with
        | ⟨0, _⟩ => show (i 0).val / 256 * 256 ≤ (i 0).val ∧ (i 0).val < (i 0).val / 256 * 256 + 256; omega
        | ⟨1, _⟩ => show (headOf (i 1).val).val * 128 ≤ (i 1).val ∧ (i 1).val < (headOf (i 1).val).val * 128 + 128; rw [hh]; omega
      · refine .inr fun a => ?_
        have hh : (headOf (i 1).val).val = ((i 1).val - 1024) % 8 := by unfold headOf; rw [dif_neg h1]
        match a with
        | ⟨0, _⟩ => show (i 0).val / 256 * 256 ≤ (i 0).val ∧ (i 0).val < (i 0).val / 256 * 256 + 256; omega
        | ⟨1, _⟩ => show 1024 + (headOf (i 1).val).val ≤ (i 1).val ∧ (i 1).val < 1024 + (headOf (i 1).val).val + 1; rw [hh]; omega

/-- The entries whose group has been done. -/
def inGroups (l : List (Fin 4 × Fin 2)) (i : S1024x1152.Idx) : Prop := (batchOf (i 0), grp (headOf (i 1).val)) ∈ l

variable {c} in
/-- An accumulator filled on a set of places is filled on a smaller one. -/
theorem accQ_mono {P P' : S1024x1152.Idx → Prop} (hP : ∀ i : S1024x1152.Idx, P' i → P i) : accQ m ρ c P ⊢ accQ m ρ c P' := by
  unfold accQ
  iintro ⟨HQ, ⟨%f, %hf, HA⟩⟩
  isplitl [HQ]; · iexact HQ
  iexists f
  isplitr; · ipureintro; exact hf.mono fun i _ => hP i
  iexact HA

/-- The heads of a group belong to it. -/
theorem grp_heads : ∀ (g : Fin 2), ∀ h ∈ headsOf g, grp h = g := by decide
/-- Every head is among the heads of its group. -/
theorem heads_all : ∀ (h : Fin 8), h ∈ (headsOf (grp h)).reverse ++ [] := by decide
/-- Every batch and group is walked over. -/
theorem groups_all : ∀ (b : Fin 4) (g : Fin 2), (b, g) ∈ groups.reverse ++ [] := by decide

/-- The keys and the values of the device. -/
def kv : sProp 𝕄 := iprop((((c : Thread nD τ).loc cc0_stg3_0) ↦{fullShare} kIn m ρ c) ∗ (((c : Thread nD τ).loc cc0_stg4_0) ↦{fullShare} vIn m ρ c))

/-- One group of one batch: four heads with the same keys and values. -/
theorem group_triple (bg : Fin 4 × Fin 2) (done : List (Fin 4 × Fin 2)) :
    Triple c iprop(kv m ρ c ∗ accQ m ρ c (inGroups done)) (groupStep bg) iprop(kv m ρ c ∗ accQ m ρ c (inGroups (bg :: done))) := by
  obtain ⟨b, g⟩ := bg
  have heads := wp_list c (fun l => accQ m ρ c (fun i => inGroups done i ∨ (batchOf (i 0) = b ∧ headOf (i 1).val ∈ l))) (headStep b (kBlk m ρ c b g) (vBlk m ρ c b g)) (headsOf g)
    (fun h hh l => by
      obtain rfl := grp_heads g h hh
      intro Q
      iintro H Hk
      iapply (head_triple m ρ c b h _ Q) $$ H
      iintro H
      iapply Hk
      have hm := accQ_mono m ρ (c := c) (P := fun i => (inGroups done i ∨ (batchOf (i 0) = b ∧ headOf (i 1).val ∈ l)) ∨ mine b h i)
        (P' := fun i => inGroups done i ∨ (batchOf (i 0) = b ∧ headOf (i 1).val ∈ h :: l)) (fun i hi => by
          rcases hi with hi | ⟨h1, h2⟩
          · exact .inl (.inl hi)
          · rcases List.mem_cons.mp h2 with h2 | h2
            · exact .inr ⟨h1, h2⟩
            · exact .inl (.inr ⟨h1, h2⟩))
      iapply hm
      iexact H) []
  intro Q
  unfold groupStep kv
  show _ ⊢ iprop(_ -∗ wp frame (wpE (defs₀ (F := F)) 𝒱₀ (c : Thread nD τ) none) Set.univ _ Q)
  simp only [Prog.lift, Prog.bind_op, Prog.bind_ret]
  iintro ⟨⟨HK, HV⟩, HA⟩ Hk
  iapply (wp_load 𝒱₀ (c : Thread nD τ) none Set.univ (m := mK) (S := Finset.univ) (Finset.subset_univ _)) $$ HK; iintro HK
  iapply (wp_load 𝒱₀ (c : Thread nD τ) none Set.univ (m := mV) (S := Finset.univ) (Finset.subset_univ _)) $$ HV; iintro HV
  have h1 := accQ_mono m ρ (c := c) (P := inGroups done) (P' := fun i => inGroups done i ∨ (batchOf (i 0) = b ∧ headOf (i 1).val ∈ ([] : List (Fin 8))))
    (fun i hi => hi.resolve_right fun h => absurd h.2 (List.not_mem_nil))
  ihave HA := h1 $$ HA
  iapply (heads Q) $$ HA
  iintro HA
  iapply Hk
  isplitl [HK HV]
  · isplitl [HK]; · iexact HK
    iexact HV
  have h2 := accQ_mono m ρ (c := c) (P := fun i => inGroups done i ∨ (batchOf (i 0) = b ∧ headOf (i 1).val ∈ (headsOf g).reverse ++ []))
    (P' := inGroups ((b, g) :: done)) (fun i hi => by
      rcases List.mem_cons.mp hi with hi | hi
      · exact .inr ⟨congrArg Prod.fst hi, by have := heads_all (headOf (i 1).val); rwa [show grp (headOf (i 1).val) = g from congrArg Prod.snd hi] at this⟩
      · exact .inl hi)
  iapply h2
  iexact HA

/-- What the projection stores are the queries. -/
theorem queries_stored (f : (cc0_stg5_0 : Ref sig .tc).ty.Contents (Elt F)) :
    (mO.access (Rect.unit (s := S1024x1024) ![0, 0] S1024x1024.size inb_S1024x1024_S1024x1024_0_0)).write (Elt F) f
      (k0_pay1 (mX.view.readAt (Elt F) (Rect.unit (s := S4x256x1024) ![0, 0, 0] S4x256x1024.size inb_S4x256x1024_S4x256x1024_0_0_0).toLoadRect (xIn m ρ c))
        (mWq.view.readAt (Elt F) (Rect.unit (s := S1024x1024) ![0, 0] S1024x1024.size inb_S1024x1024_S1024x1024_0_0).toLoadRect (wqIn m ρ c))) Finset.univ = qAll m ρ c := by
  have hx : mX.view.readAt (Elt F) (Rect.unit (s := S4x256x1024) ![0, 0, 0] S4x256x1024.size inb_S4x256x1024_S4x256x1024_0_0_0).toLoadRect (xIn m ρ c) = xIn m ρ c :=
    Memref.readAt_unit_zero (Elt F) cc0_stg0_0 (by decide) _ _
  have hw : mWq.view.readAt (Elt F) (Rect.unit (s := S1024x1024) ![0, 0] S1024x1024.size inb_S1024x1024_S1024x1024_0_0).toLoadRect (wqIn m ρ c) = wqIn m ρ c :=
    Memref.readAt_unit_zero (Elt F) cc0_stg1_0 (by decide) _ _
  rw [hx, hw]
  exact Memref.write_access_unit_zero_univ (Elt F) cc0_stg5_0 (off := ![0, 0]) (by decide) inb_S1024x1024_S1024x1024_0_0 f _

/-- The projection. -/
theorem q_triple : Triple c iprop((((c : Thread nD τ).loc cc0_stg0_0) ↦{fullShare} xIn m ρ c) ∗ (((c : Thread nD τ).loc cc0_stg1_0) ↦{fullShare} wqIn m ρ c)
      ∗ ∃ f, (((c : Thread nD τ).loc cc0_stg5_0) ↦{fullShare} f)) qStep
    iprop((((c : Thread nD τ).loc cc0_stg0_0) ↦{fullShare} xIn m ρ c) ∗ (((c : Thread nD τ).loc cc0_stg1_0) ↦{fullShare} wqIn m ρ c)
      ∗ (((c : Thread nD τ).loc cc0_stg5_0) ↦{fullShare} qAll m ρ c)) := by
  intro Q
  unfold qStep
  show _ ⊢ iprop(_ -∗ wp frame (wpE (defs₀ (F := F)) 𝒱₀ (c : Thread nD τ) none) Set.univ _ Q)
  simp only [Prog.lift, Prog.bind_op, Prog.bind_ret, Prog.pure_eq_ret]
  iintro ⟨HX, HW, ⟨%f, HO⟩⟩ Hk
  iapply (wp_load 𝒱₀ (c : Thread nD τ) none Set.univ (m := mX) (S := Finset.univ) (Finset.subset_univ _)) $$ HX; iintro HX
  iapply (wp_load 𝒱₀ (c : Thread nD τ) none Set.univ (m := mWq) (S := Finset.univ) (Finset.subset_univ _)) $$ HW; iintro HW
  iapply (wp_load 𝒱₀ (c : Thread nD τ) none Set.univ (m := mO) (S := Finset.univ) (Finset.subset_univ _)) $$ HO; iintro HO
  iapply (wp_store 𝒱₀ (c : Thread nD τ) none Set.univ (m := mO) (r := Rect.unit (s := S1024x1024) ![0, 0] S1024x1024.size inb_S1024x1024_S1024x1024_0_0) (Mk := Finset.univ) (S := Finset.univ) (Finset.subset_univ _)) $$ HO; iintro HO
  rw [wp_ret]; imodintro
  iapply Hk
  isplitl [HX]; · iexact HX
  isplitl [HW]; · iexact HW
  have e := queries_stored m ρ c f
  ihave HO := (Entails.of_eq (congrArg (fun g => (((c : Thread nD τ).loc cc0_stg5_0) ↦{fullShare} g : sProp 𝕄)) e)) $$ HO
  iexact HO

/-- The whole local attention. -/
theorem groups_triple : Triple c iprop(kv m ρ c ∗ accQ m ρ c (fun _ => False)) (chain (groups.map groupStep)) iprop(kv m ρ c ∗ accQ m ρ c (fun _ => True)) := by
  have h := wp_list c (fun l => iprop(kv m ρ c ∗ accQ m ρ c (inGroups l))) groupStep groups (fun bg _ l => group_triple m ρ c bg l) []
  intro Q
  iintro ⟨HK, HA⟩ Hk
  have h1 := accQ_mono m ρ (c := c) (P := fun _ => False) (P' := inGroups []) (fun i hi => absurd hi (List.not_mem_nil))
  ihave HA := h1 $$ HA
  iapply (h Q) $$ [HK HA]
  · isplitl [HK] <;> iassumption
  iintro ⟨HK, HA⟩
  iapply Hk
  isplitl [HK]; · iexact HK
  have h2 := accQ_mono m ρ (c := c) (P := inGroups (groups.reverse ++ [])) (P' := fun _ => True) (fun i _ => groups_all _ _)
  iapply h2
  iexact HA

end Attn

end
-- ==== Proof.Pieces.lean ====
/- Cutting the buffers into the pieces that travel, and putting them together again. -/
module

public import proofs.«01_k».proof.Proof.Gather
public import proofs.«01_k».proof.Proof.Local
public import Idealize.ShloMosaic.Lib.Ring

@[expose] public section

noncomputable section

namespace Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks pointsTo_blocks_join_exists)
open Idealize.ShloMosaic.ValueIdx
open Pipeline (chain)

variable {F : FTy → Type} [FloatOps F]
local notation "𝕄" => MT nD τ sig Unit (Elt F) ℕ UU ℕ
variable (m : (ℓ : Loc nD τ sig) → Buf (Elt F) ℓ) (ρ : Dev nD → PrngReg)
variable (c : Dev nD)

/-! ## Families -/

omit [FloatOps F] in
/-- A family over `n + 1` numbers, its first member apart. -/
theorem first_apart {n : ℕ} (Φ : Fin (n + 1) → sProp 𝕄) : bigSep Finset.univ Φ = iprop(Φ 0 ∗ bigSep Finset.univ fun k : Fin n => Φ k.succ) := by
  rw [Fin.univ_succ, Finset.cons_eq_insert, bigSep_insert (by simp), bigSep_map]; rfl
omit [FloatOps F] in
/-- A family over `n + 1` numbers, its last member apart. -/
theorem last_apart {n : ℕ} (Φ : Fin (n + 1) → sProp 𝕄) : bigSep Finset.univ Φ = iprop((bigSep Finset.univ fun k : Fin n => Φ k.castSucc) ∗ Φ (Fin.last n)) := by
  rw [Fin.univ_castSuccEmb, Finset.cons_eq_insert, bigSep_insert (by simp), bigSep_map]
  exact BI.Entails.antisymm BI.sep_comm BI.sep_comm

/-- The chunks by the rounds in which they are sent, to the right and to the left. -/
def chunks : Fin 16 ⊕ Fin 16 ≃ Dev nD :=
  Equiv.ofBijective (Sum.elim (fun s => chunkR c s.val) fun s => chunkL c s.val)
    ((Fintype.bijective_iff_injective_and_card _).mpr ⟨by revert c; decide +kernel, by decide⟩)

omit [FloatOps F] in
/-- A product over all devices is one over the chunks met going right and going left. -/
theorem by_rounds (Φ : Dev nD → sProp 𝕄) :
    bigSep Finset.univ Φ = iprop((bigSep Finset.univ fun s : Fin 16 => Φ (chunkR c s.val)) ∗ bigSep Finset.univ fun s : Fin 16 => Φ (chunkL c s.val)) := by
  rw [bigSep_univ_equiv (chunks c), bigSep_univ_sum]; rfl

omit [FloatOps F] in
/-- A family over the chunks as the ring takes it: the two first ones, then two in each round. -/
theorem chunks_out (Φ : Dev nD → sProp 𝕄) :
    bigSep Finset.univ Φ = iprop((Φ (chunkR c 0) ∗ bigSep Finset.univ fun s : Fin 15 => Φ (chunkR c (s.val + 1)))
      ∗ (Φ (chunkL c 0) ∗ bigSep Finset.univ fun s : Fin 15 => Φ (chunkL c (s.val + 1)))) := by
  rw [by_rounds c, first_apart, first_apart (fun s : Fin 16 => Φ (chunkL c s.val))]; rfl
omit [FloatOps F] in
/-- A family over the chunks as the ring leaves it: those sent, and the device's own. -/
theorem chunks_in (Φ : Dev nD → sProp 𝕄) :
    bigSep Finset.univ Φ = iprop((bigSep Finset.univ fun s : Fin 16 => Φ (chunkR c s.val)) ∗ (bigSep Finset.univ fun s : Fin 15 => Φ (chunkL c s.val)) ∗ Φ c) := by
  rw [by_rounds c, last_apart (fun s : Fin 16 => Φ (chunkL c s.val))]
  rw [show chunkL c (Fin.last 15).val = c from rot_zero _ c (by decide)]; rfl

/-- The numbers by which the devices follow one. -/
def following : Fin 32 ≃ Dev nD :=
  Equiv.ofBijective (fun i => rot i.val c) ((Fintype.bijective_iff_injective_and_card _).mpr ⟨by revert c; decide +kernel, by decide⟩)

omit [FloatOps F] in
/-- A family over the devices: this one, and those that follow. -/
theorem own_apart (Φ : Dev nD → sProp 𝕄) : bigSep Finset.univ Φ = iprop(Φ c ∗ bigSep Finset.univ fun e : Fin 31 => Φ (rot (1 + e.val) c)) := by
  rw [bigSep_univ_equiv (following c), first_apart]
  show iprop(Φ (rot 0 c) ∗ bigSep Finset.univ fun e : Fin 31 => Φ (rot (e.val + 1) c)) = _
  rw [show rot 0 c = c from rot_zero 0 c rfl, bigSep_congr fun (e : Fin 31) _ => congrArg (fun n => Φ (rot n c)) (Nat.add_comm e.val 1)]

/-! ## Pieces of a buffer -/

omit [FloatOps F] in
/-- A piece whose contents satisfy `P` is held with `P`. -/
theorem held_of {S : Shape} {q : PosShare TreeShare} {M : Memref sig .tc .vmem S .f32} {d : Dev nD} {P : (S.Idx → F .f32) → Prop} {f : Buf (Elt F) (M.view.loc (d : Thread nD τ))}
    (h : P (M.view.read (Elt F) f)) : (M.view.loc (d : Thread nD τ) ↦[M.view.set]{q} f : sProp 𝕄) ⊢ held q M d P := by
  unfold held
  iintro H
  iexists f
  isplitr; · ipureintro; exact h
  iexact H
omit [FloatOps F] in
/-- A held piece has some contents. -/
theorem held_out {S : Shape} {q : PosShare TreeShare} {M : Memref sig .tc .vmem S .f32} {d : Dev nD} {P : (S.Idx → F .f32) → Prop} :
    (held q M d P : sProp 𝕄) ⊢ iprop(∃ f, M.view.loc (d : Thread nD τ) ↦[M.view.set]{q} f) := by
  unfold held
  iintro ⟨%f, -, H⟩
  iexists f
  iexact H

/-- Pieces told apart by a key are disjoint and together everything. -/
theorem keyed {X B : Type} [Fintype X] [DecidableEq X] [Fintype B] [DecidableEq B] (I : B → Finset X) (key : X → B) (h : ∀ b x, x ∈ I b ↔ key x = b) :
    (∀ b b', b ≠ b' → Disjoint (I b) (I b')) ∧ Finset.univ.biUnion I = Finset.univ :=
  ⟨fun b b' hb => Finset.disjoint_left.mpr fun x hx hx' => hb (((h b x).mp hx).symm.trans ((h b' x).mp hx')),
    Finset.eq_univ_of_forall fun x => Finset.mem_biUnion.mpr ⟨key x, Finset.mem_univ _, (h _ x).mpr rfl⟩⟩

/-- A place is in chunk `k` of the accumulator when its row divided by 32 is `k`. -/
theorem key_mAc (k : Dev nD) (i : S1024x1152.Idx) :
    i ∈ (mAc k).view.set ↔ (⟨(i 0).val / 32, by have := idx2_lt0 i; show _ < 32; omega⟩ : Dev nD) = k := by
  have h0 := idx2_lt0 i
  have h1 := idx2_lt1 i
  rw [View.set_slice_whole, Rect.mem_set_unit, Fin.ext_iff]
  constructor
  · intro h
    have := h 0
    have h2 : k.val * 32 ≤ (i 0).val ∧ (i 0).val < k.val * 32 + 32 := h 0
    show (i 0).val / 32 = k.val; omega
  · intro (h : (i 0).val / 32 = k.val) a
    match a with
    | ⟨0, _⟩ => show k.val * 32 ≤ (i 0).val ∧ (i 0).val < k.val * 32 + 32; omega
    | ⟨1, _⟩ => show 0 ≤ (i 1).val ∧ (i 1).val < 0 + 1152; omega
/-- A place is in the rows of chunk `k` of the result when its row divided by 32 is `k`. -/
theorem key_mOc (k : Dev nD) (i : S1024x1024.Idx) :
    i ∈ (mOc k).view.set ↔ (⟨(i 0).val / 32, by have := idx2_lt0 i; show _ < 32; omega⟩ : Dev nD) = k := by
  have h0 := idx2_lt0 i
  have h1 := idx2_lt1 i
  rw [View.set_slice_whole, Rect.mem_set_unit, Fin.ext_iff]
  constructor
  · intro h
    have h2 : k.val * 32 ≤ (i 0).val ∧ (i 0).val < k.val * 32 + 32 := h 0
    show (i 0).val / 32 = k.val; omega
  · intro (h : (i 0).val / 32 = k.val) a
    match a with
    | ⟨0, _⟩ => show k.val * 32 ≤ (i 0).val ∧ (i 0).val < k.val * 32 + 32; omega
    | ⟨1, _⟩ => show 0 ≤ (i 1).val ∧ (i 1).val < 0 + 1024; omega
/-- A place is in slot `s` of a landing buffer when its first coordinate is `s`. -/
theorem key_slot {n : ℕ} (s : Fin n) (i : (⟨3, ![n, 32, 1152]⟩ : Shape).Idx) (inb : ∀ a, (![s.val, 0, 0] : Fin 3 → ℕ) a + S1x32x1152.size a ≤ (⟨3, ![n, 32, 1152]⟩ : Shape).size a) :
    i ∈ (Rect.unit (s := ⟨3, ![n, 32, 1152]⟩) ![s.val, 0, 0] S1x32x1152.size inb).set ↔ (i 0).val = s.val := by
  rw [Rect.mem_set_unit]
  constructor
  · intro h
    have h2 : s.val ≤ (i 0).val ∧ (i 0).val < s.val + 1 := h 0
    omega
  · intro (h : (i 0).val = s.val) a
    match a with
    | ⟨0, _⟩ => show s.val ≤ (i 0).val ∧ (i 0).val < s.val + 1; omega
    | ⟨1, _⟩ => exact ⟨Nat.zero_le _, lt_of_lt_of_eq (i 1).isLt (Nat.zero_add _).symm⟩
    | ⟨2, _⟩ => exact ⟨Nat.zero_le _, lt_of_lt_of_eq (i 2).isLt (Nat.zero_add _).symm⟩
/-- A place is in slot `s` of the right-going landing buffer when its first coordinate is `s`. -/
theorem key_mRs (s : Fin 16) (i : S16x32x1152.Idx) : i ∈ (mRs s).view.set ↔ (i 0 : Fin 16) = s := by
  rw [View.set_reshape, View.set_slice_whole]; exact (key_slot s i (inbR s)).trans (Fin.ext_iff (a := (i 0 : Fin 16))).symm
/-- A place is in slot `s` of the left-going landing buffer when its first coordinate is `s`. -/
theorem key_mLs (s : Fin 15) (i : S15x32x1152.Idx) : i ∈ (mLs s).view.set ↔ (i 0 : Fin 15) = s := by
  rw [View.set_reshape, View.set_slice_whole]; exact (key_slot s i (inbL s)).trans (Fin.ext_iff (a := (i 0 : Fin 15))).symm

/-- The elements of a piece, by its number. -/
abbrev cutAc (b : Dev nD) : Finset S1024x1152.Idx := (mAc b).view.set
/-- The elements of a piece, by its number. -/
abbrev cutOc (b : Dev nD) : Finset S1024x1024.Idx := (mOc b).view.set
/-- The elements of a piece, by its number. -/
abbrev cutRs (b : Fin 16) : Finset S16x32x1152.Idx := (mRs b).view.set
/-- The elements of a piece, by its number. -/
abbrev cutLs (b : Fin 15) : Finset S15x32x1152.Idx := (mLs b).view.set
/-- The accumulator's chunks are disjoint and make up all of it. -/
theorem split_mAc : (∀ b b', b ≠ b' → Disjoint (cutAc b) (cutAc b')) ∧ Finset.univ.biUnion cutAc = Finset.univ := keyed _ _ key_mAc
/-- The result's chunks are disjoint and make up all of it. -/
theorem split_mOc : (∀ b b', b ≠ b' → Disjoint (cutOc b) (cutOc b')) ∧ Finset.univ.biUnion cutOc = Finset.univ := keyed _ _ key_mOc
/-- The slots of the right-going landing buffer are disjoint and make up all of it. -/
theorem split_mRs : (∀ b b', b ≠ b' → Disjoint (cutRs b) (cutRs b')) ∧ Finset.univ.biUnion cutRs = Finset.univ := keyed _ _ key_mRs
/-- The slots of the left-going landing buffer are disjoint and make up all of it. -/
theorem split_mLs : (∀ b b', b ≠ b' → Disjoint (cutLs b) (cutLs b')) ∧ Finset.univ.biUnion cutLs = Finset.univ := keyed _ _ key_mLs

/-- The accumulator after the local attention, by chunks. -/
theorem acc_split (f : (cc0_scratch0 : Ref sig .tc).ty.Contents (Elt F)) (hf : Upto m ρ c (fun _ => True) f) :
    (((c : Thread nD τ).loc cc0_scratch0) ↦{fullShare} f : sProp 𝕄) ⊢ bigSep Finset.univ fun k : Dev nD => held fullShare (mAc k) c (Agree (locC m ρ c k)) := by
  refine BIBase.Entails.trans (Entails.of_eq (pointsTo_blocks (ℓ := (c : Thread nD τ).loc cc0_scratch0) cutAc split_mAc.1 split_mAc.2 f)) (bigSep_mono fun k _ => ?_)
  refine held_of (M := mAc k) fun p hp => ?_
  unfold locC
  rw [read_mAc, read_mAc]
  exact hf _ hp trivial
omit [FloatOps F] in
include m in
/-- All chunks of the accumulator, held, are the accumulator with some contents. -/
theorem acc_join : (bigSep Finset.univ fun k : Dev nD => (held fullShare (mAc k) c anyC : sProp 𝕄)) ⊢ iprop(∃ f : Buf (Elt F) _, ((c : Thread nD τ).loc cc0_scratch0) ↦{fullShare} f) := by
  refine BIBase.Entails.trans (bigSep_mono fun k _ => held_out) ?_
  exact pointsTo_blocks_join_exists (ℓ := (c : Thread nD τ).loc cc0_scratch0) cutAc split_mAc.1 split_mAc.2 (m ((c : Thread nD τ).loc cc0_scratch0))
omit [FloatOps F] in
/-- The right-going landing buffer is its slots, each with any contents. -/
theorem slotsR_split : iprop(∃ f : Buf (Elt F) _, ((c : Thread nD τ).loc cc0_scratch1) ↦{fullShare} f) ⊢ bigSep Finset.univ fun s : Fin 16 => (held fullShare (mRs s) c anyC : sProp 𝕄) := by
  iintro ⟨%f, H⟩
  ihave H := (Entails.of_eq (pointsTo_blocks (ℓ := (c : Thread nD τ).loc cc0_scratch1) cutRs split_mRs.1 split_mRs.2 f)) $$ H
  have h : (bigSep Finset.univ fun s : Fin 16 => ((c : Thread nD τ).loc cc0_scratch1 ↦[(mRs s).view.set]{fullShare} f : sProp 𝕄)) ⊢ bigSep Finset.univ fun s : Fin 16 => (held fullShare (mRs s) c anyC : sProp 𝕄) :=
    bigSep_mono fun s _ => held_of (M := mRs s) (f := f) trivial
  iapply h; iexact H
omit [FloatOps F] in
include m in
/-- All slots of the right-going landing buffer are the buffer with some contents. -/
theorem slotsR_join : (bigSep Finset.univ fun s : Fin 16 => (held fullShare (mRs s) c anyC : sProp 𝕄)) ⊢ iprop(∃ f : Buf (Elt F) _, ((c : Thread nD τ).loc cc0_scratch1) ↦{fullShare} f) :=
  BIBase.Entails.trans (bigSep_mono fun k _ => held_out)
    (pointsTo_blocks_join_exists (ℓ := (c : Thread nD τ).loc cc0_scratch1) cutRs split_mRs.1 split_mRs.2 (m ((c : Thread nD τ).loc cc0_scratch1)))
omit [FloatOps F] in
/-- The left-going landing buffer is its slots, each with any contents. -/
theorem slotsL_split : iprop(∃ f : Buf (Elt F) _, ((c : Thread nD τ).loc cc0_scratch2) ↦{fullShare} f) ⊢ bigSep Finset.univ fun s : Fin 15 => (held fullShare (mLs s) c anyC : sProp 𝕄) := by
  iintro ⟨%f, H⟩
  ihave H := (Entails.of_eq (pointsTo_blocks (ℓ := (c : Thread nD τ).loc cc0_scratch2) cutLs split_mLs.1 split_mLs.2 f)) $$ H
  have h : (bigSep Finset.univ fun s : Fin 15 => ((c : Thread nD τ).loc cc0_scratch2 ↦[(mLs s).view.set]{fullShare} f : sProp 𝕄)) ⊢ bigSep Finset.univ fun s : Fin 15 => (held fullShare (mLs s) c anyC : sProp 𝕄) :=
    bigSep_mono fun s _ => held_of (M := mLs s) (f := f) trivial
  iapply h; iexact H
omit [FloatOps F] in
include m in
/-- All slots of the left-going landing buffer are the buffer with some contents. -/
theorem slotsL_join : (bigSep Finset.univ fun s : Fin 15 => (held fullShare (mLs s) c anyC : sProp 𝕄)) ⊢ iprop(∃ f : Buf (Elt F) _, ((c : Thread nD τ).loc cc0_scratch2) ↦{fullShare} f) :=
  BIBase.Entails.trans (bigSep_mono fun k _ => held_out)
    (pointsTo_blocks_join_exists (ℓ := (c : Thread nD τ).loc cc0_scratch2) cutLs split_mLs.1 split_mLs.2 (m ((c : Thread nD τ).loc cc0_scratch2)))
omit [FloatOps F] in
/-- The result buffer is the rows of all chunks, each with any contents. -/
theorem rows_split (f : (cc0_stg5_0 : Ref sig .tc).ty.Contents (Elt F)) :
    (((c : Thread nD τ).loc cc0_stg5_0) ↦{fullShare} f : sProp 𝕄) ⊢ bigSep Finset.univ fun k : Dev nD => anyRows c k :=
  BIBase.Entails.trans (Entails.of_eq (pointsTo_blocks (ℓ := (c : Thread nD τ).loc cc0_stg5_0) cutOc split_mOc.1 split_mOc.2 f))
    (bigSep_mono fun k _ => held_of (M := mOc k) (f := f) trivial)

/-! ## The rows of the result -/

/-- Share `q` of the rows `k` on device `d`, with their final values. -/
abbrev rowsPt (q : PosShare TreeShare) (d k : Dev nD) : sProp 𝕄 := ((d : Thread nD τ).loc cc0_stg5_0) ↦[(mOc k).view.set]{q} outAll m ρ

/-- Rows `k` held with device `k`'s result are a points-to of the whole result on those rows. -/
theorem rowsPt_of (q : PosShare TreeShare) (d k : Dev nD) : held q (mOc k) d (· = outRows m ρ k) ⊢ rowsPt m ρ q d k := by
  unfold held
  iintro ⟨%f, %hf, H⟩
  have h : (((d : Thread nD τ).loc cc0_stg5_0) ↦[(mOc k).view.set]{q} f : sProp 𝕄) = rowsPt m ρ q d k := pointsTo_congr (ℓ := (d : Thread nD τ).loc cc0_stg5_0) (q := q) (I := (mOc k).view.set) (f := f) (g := outAll m ρ) (fun i hi => by
    obtain ⟨x, -, rfl⟩ := Finset.mem_map.mp hi
    exact congrFun (hf.trans (read_outAll m ρ k).symm) x)
  ihave H := (Entails.of_eq h) $$ H
  iexact H
/-- A points-to of the whole result on rows `k` holds those rows with device `k`'s result. -/
theorem of_rowsPt (q : PosShare TreeShare) (d k : Dev nD) : rowsPt m ρ q d k ⊢ held q (mOc k) d (· = outRows m ρ k) :=
  held_of (M := mOc k) (read_outAll m ρ k)

/-- The device's own rows in the shares that it lends, and the rest. -/
theorem lend : doneRows m ρ c c ⊢ iprop(rowsPt m ρ (Transfers.shareDrop fullShare 31) c c ∗ bigSep Finset.univ fun e : Fin 31 => lentRows m ρ c e) :=
  (rowsPt_of m ρ fullShare c c).trans ((Transfers.pointsTo_toks_split fullShare 31).trans (sep_mono_right (bigSep_mono fun e _ => of_rowsPt m ρ (lent e) c c)))
/-- All rows, the own ones in shares, make the whole result. -/
theorem rows_join : iprop(rowsPt m ρ (Transfers.shareDrop fullShare 31) c c ∗ (bigSep Finset.univ fun e : Fin 31 => lentRows m ρ c e)
      ∗ bigSep Finset.univ fun e : Fin 31 => doneRows m ρ c (rot (1 + e.val) c)) ⊢ (((c : Thread nD τ).loc cc0_stg5_0) ↦{fullShare} outAll m ρ) := by
  rw [pointsTo_blocks (ℓ := (c : Thread nD τ).loc cc0_stg5_0) cutOc split_mOc.1 split_mOc.2 (outAll m ρ), own_apart c]
  iintro ⟨H0, H1, H2⟩
  isplitl [H0 H1]
  · have h : iprop(rowsPt m ρ (Transfers.shareDrop fullShare 31) c c ∗ (bigSep Finset.univ fun e : Fin 31 => lentRows m ρ c e)) ⊢ rowsPt m ρ fullShare c c :=
      (sep_mono_right (bigSep_mono fun e _ => rowsPt_of m ρ (lent e) c c)).trans (Transfers.pointsTo_toks_join fullShare 31)
    iapply h
    isplitl [H0] <;> iassumption
  · have h : (bigSep Finset.univ fun e : Fin 31 => doneRows m ρ c (rot (1 + e.val) c)) ⊢ bigSep Finset.univ fun e : Fin 31 => rowsPt m ρ fullShare c (rot (1 + e.val) c) :=
      bigSep_mono fun e _ => rowsPt_of m ρ fullShare c _
    iapply h
    iexact H2

/-! ## The places that came with a chunk -/

omit [FloatOps F] in
/-- The rights collected going right over `n` rounds are rights to write chunk `k`'s rows on the device and the `n`
devices to its left. -/
theorem heldR_all : ∀ (n : ℕ) (d k : Dev nD), n < 17 → chunkR d n = k → (heldR (F := F) n d : sProp 𝕄) ⊢ bigSep Finset.univ fun i : Fin (n + 1) => anyRows (rot (31 * i.val) d) k
  | 0, d, k, _, h => by
    rw [first_apart, show rot (31 * (0 : Fin 1).val) d = d from rot_zero _ d rfl, ← h]
    unfold heldR
    iintro H
    isplitl [H]; · iexact H
    rw [Finset.univ_eq_empty, bigSep_empty]; iempintro
  | n + 1, d, k, hn, h => by
    rw [first_apart, show rot (31 * (0 : Fin (n + 1 + 1)).val) d = d from rot_zero _ d (by simp)]
    unfold heldR
    rw [h]
    refine sep_mono_right ?_
    refine (heldR_all n (lft d) k (by omega) ((chunkR_lft d n (by omega)).trans h)).trans (bigSep_mono fun i _ => ?_)
    rw [rot_rot, rot_mod (31 * i.val + 31) (31 * i.succ.val) d (by rw [Fin.val_succ]; omega)]
    exact BI.Entails.refl _
omit [FloatOps F] in
/-- The rights collected going left over `n` rounds are rights to write chunk `k`'s rows on the device and the `n`
devices to its right. -/
theorem heldL_all : ∀ (n : ℕ) (d k : Dev nD), chunkL d n = k → (heldL (F := F) n d : sProp 𝕄) ⊢ bigSep Finset.univ fun i : Fin (n + 1) => anyRows (rot i.val d) k
  | 0, d, k, h => by
    rw [first_apart, show rot (0 : Fin 1).val d = d from rot_zero _ d rfl, ← h]
    unfold heldL
    iintro H
    isplitl [H]; · iexact H
    rw [Finset.univ_eq_empty, bigSep_empty]; iempintro
  | n + 1, d, k, h => by
    rw [first_apart, show rot (0 : Fin (n + 1 + 1)).val d = d from rot_zero _ d (by simp)]
    unfold heldL
    rw [h]
    refine sep_mono_right ((heldL_all n (rgt d) k ((chunkL_rgt d n).trans h)).trans (bigSep_mono fun i _ => ?_))
    rw [rot_rot, rot_mod (i.val + 1) i.succ.val d (by rw [Fin.val_succ])]
    exact BI.Entails.refl _

/-- The devices after this one: those to the right that the chunk passed on its way to the left, and the others. -/
def passed : Fin 15 ⊕ Fin 16 ≃ Fin 31 :=
  Equiv.ofBijective (Sum.elim (fun i => (⟨i.val, by omega⟩ : Fin 31)) fun j => ⟨30 - j.val, by omega⟩)
    ((Fintype.bijective_iff_injective_and_card _).mpr ⟨by decide +kernel, by decide⟩)

omit [FloatOps F] in
/-- The places that came with the device's own chunk from both sides: its rows on every device. -/
theorem places_all : iprop(heldL (F := F) 15 c ∗ heldR 15 (lft c)) ⊢ (iprop(anyRows c c ∗ bigSep Finset.univ fun e : Fin 31 => anyRows (rot (1 + e.val) c) c) : sProp 𝕄) := by
  refine (BIClass.sep_mono (heldL_all 15 c c (rot_zero _ c (by decide))) (heldR_all 15 (lft c) c (by decide) ((chunkR_lft c 15 (by decide)).trans (rot_zero _ c (by decide))))).trans ?_
  rw [first_apart (fun i : Fin 16 => anyRows (F := F) (rot i.val c) c), show rot (0 : Fin 16).val c = c from rot_zero _ c rfl,
    bigSep_univ_equiv passed fun e : Fin 31 => anyRows (F := F) (rot (1 + e.val) c) c, bigSep_univ_sum]
  have hR : (bigSep Finset.univ fun i : Fin (15 + 1) => (anyRows (F := F) (rot (31 * i.val) (lft c)) c : sProp 𝕄)) ⊢ bigSep Finset.univ fun j : Fin 16 => anyRows (rot (1 + (passed (.inr j)).val) c) c :=
    bigSep_mono fun j _ => by
      rw [rot_rot, rot_mod (31 * j.val + 31) (1 + (passed (.inr j)).val) c (by show _ = (1 + (30 - j.val)) % 32; omega)]
      exact BI.Entails.refl _
  have hL : (bigSep Finset.univ fun i : Fin 15 => (anyRows (F := F) (rot i.succ.val c) c : sProp 𝕄)) ⊢ bigSep Finset.univ fun i : Fin 15 => anyRows (rot (1 + (passed (.inl i)).val) c) c :=
    bigSep_mono fun i _ => by
      rw [rot_mod i.succ.val (1 + (passed (.inl i)).val) c (by show (i.val + 1) % 32 = (1 + i.val) % 32; omega)]
      exact BI.Entails.refl _
  iintro ⟨⟨H0, H1⟩, H2⟩
  isplitl [H0]; · iexact H0
  have h := BIClass.sep_mono hL hR
  iapply h
  isplitl [H1] <;> iassumption

end Attn

end
-- ==== Proof.Ring.lean ====
/- The barrier and the rounds of the ring: every step's rule, then the rounds as a loop. -/
module

public import proofs.«01_k».proof.Proof.Rules
public import Idealize.ShloMosaic.Lib.Pipeline.Value

@[expose] public section

noncomputable section

namespace Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Pipeline (chain)

variable {F : FTy → Type} [FloatOps F]
local notation "𝕄" => MT nD τ sig Unit (Elt F) ℕ UU ℕ
variable (m : (ℓ : Loc nD τ sig) → Buf (Elt F) ℓ) (ρ : Dev nD → PrngReg)
variable (K : Dev nD × Cell → ℕ)

/-! ## The barrier -/

/-- Signalling a neighbour's barrier, handing over what the payment carries. -/
theorem signal_triple (c d : Dev nD) (b : Bool) {O₀ : CellTallies nD τ sig Unit} (O : CellTallies nD τ sig Unit) (hO : O₀ = O + tallyAt (kcell (d, none)) () 1) :
    Triple c iprop(recs m ρ K ∗ owing c O₀ ∗ dutyTok ER (kcell (d, none)) 0 b ∗ payOf m ρ none d 0 b) (semSignalWord d barSem 1#32) (owing c O) := by
  intro Q
  unfold owing
  show _ ⊢ iprop(_ -∗ wp frame (wpE (defs₀ (F := F)) 𝒱₀ (c : Thread nD τ) none) Set.univ (semSignalWord d barSem 1#32) Q)
  simp only [semSignalWord, Prog.lift, Prog.bind_op, Prog.bind_ret, Prog.pure_eq_ret]
  have hi := inv_at (F := F) m ρ K (d, none)
  have hr := reached_at (F := F) m ρ K (d, none)
  have hp := payload_cell (F := F) m ρ d none 0 b
  iintro ⟨#HR, ⟨%W, HO⟩, Ht, Hp⟩ Hk
  iapply (Rounds.wp_signal 𝒱₀ ER (talk m ρ) (c : Thread nD τ) none (dst := (d : Thread nD τ)) (κ := K (d, none))
      (d := b) (mem_bar m ρ d b) ((amount_cell m ρ d none 0 b).trans (by decide)) () O hO) $$ [HO Ht Hp]
  · isplitr; · iapply hi; iexact HR
    isplitl [HO]; · iexact HO
    isplitl [Ht]; · iexact Ht
    isplitl [Hp]; · rw [hp]; iexact Hp
    iapply hr; iexact HR
  iintro HO
  rw [wp_ret]; imodintro
  iapply Hk
  iexists W; iexact HO

/-- Waiting for both neighbours: their landing buffers arrive. -/
theorem barrier_triple (c : Dev nD) (O : CellTallies nD τ sig Unit) (hO : Above 1 O) :
    Triple c iprop(recs m ρ K ∗ cred (tallyAt (kcell (c, none)) () 2) ∗ owing c O ∗ atPos ER (kcell (c, none)) 0 ∅ 0) (semWaitWord barSem 2#32)
      iprop(owing c O ∗ atPos ER (kcell (c, none)) 1 ∅ 0 ∗ payOf m ρ none c 0 false ∗ payOf m ρ none c 0 true) := by
  intro Q
  unfold owing
  show _ ⊢ iprop(_ -∗ wp frame (wpE (defs₀ (F := F)) 𝒱₀ (c : Thread nD τ) none) Set.univ (semWaitWord barSem 2#32) Q)
  simp only [semWaitWord, Prog.lift, Prog.bind_op, Prog.bind_ret, Prog.pure_eq_ret]
  have hi := inv_at (F := F) m ρ K (c, none)
  have hw := wait_at (F := F) m ρ K c none O hO
  have hp := rest_bar (F := F) m ρ c
  iintro ⟨#HR, Hc, ⟨%W, HO⟩, Hat⟩ Hk
  iapply (Rounds.wp_wait_rest_token 𝒱₀ ER (talk m ρ) (c : Thread nD τ) none (κ := K (c, none))
      (wpE_semWait_eq 𝒱₀ (c : Thread nD τ) none Set.univ) (Set.mem_univ _) () (O := O) (W := W) (R := 0) (m := 0) (T := ∅)
      (by rw [expect_bar]; decide)) $$ [Hc HO Hat]
  · isplitr; · iapply hi; iexact HR
    isplitl [Hc]; · iexact Hc
    isplitl [HO]; · iexact HO
    isplitr; · iapply hw; iexact HR
    iexact Hat
  iintro ⟨HO, Hat, -, Hpay⟩
  ihave Hp := (Entails.of_eq hp) $$ Hpay
  rw [wp_ret]; imodintro
  iapply Hk
  isplitl [HO]; · iexists _; iexact HO
  isplitl [Hat]; · iexact Hat
  iexact Hp

/-! ## Adding a chunk that arrived -/

/-- The sum the kernel stores is the entrywise sum of the chunk and the slot. -/
theorem pay134_eq {n : ℕ} {B : Memref sig .tc .vmem ⟨3, ![n, 32, 1152]⟩ .f32} {o₂ : Fin 3 → ℕ} {i₂ : ∀ a, o₂ a + S1x32x1152.size a ≤ (⟨3, ![n, 32, 1152]⟩ : Shape).size a}
    (a : Chunk F) (f : B.view.ty.Contents (Elt F)) :
    k0_pay134 a (B.view.readAt (Elt F) (Rect.unit (s := ⟨3, ![n, 32, 1152]⟩) o₂ S1x32x1152.size i₂).toLoadRect f)
      = addC a (((B.slice (Rect.unit (s := ⟨3, ![n, 32, 1152]⟩) o₂ S1x32x1152.size i₂) (fun _ => rfl)).squeeze S32x1152 squeezes_S1x32x1152_S32x1152).view.read (Elt F) f) := by
  unfold k0_pay134
  show shapeCast S32x1152 _ shapeCasts_S32x1152_S32x1152 = _
  rw [shapeCast_self]
  funext p
  unfold addC
  rw [Memref.read_squeeze_slice (Val := Elt F) B (Rect.unit (s := ⟨3, ![n, 32, 1152]⟩) o₂ S1x32x1152.size i₂) (fun _ => rfl) squeezes_S1x32x1152_S32x1152 shapeCasts_S1x32x1152_S32x1152 f]
  rfl

/-- Adding slot `B` at `o₂` to chunk `k`. -/
theorem add_triple (c k : Dev nD) {o : Fin 2 → ℕ} (i : ∀ a, o a + S32x1152.size a ≤ S1024x1152.size a) (ho : o = ![k.val * 32, 0])
    {n : ℕ} (B : Memref sig .tc .vmem ⟨3, ![n, 32, 1152]⟩ .f32) {o₂ : Fin 3 → ℕ} (i₂ : ∀ a, o₂ a + S1x32x1152.size a ≤ (⟨3, ![n, 32, 1152]⟩ : Shape).size a) (g g' : Chunk F)
    (hl₁ hl₃) (hl₂) (hst) (hor) :
    Triple c iprop(held fullShare (mAc k) c (Agree g) ∗ held fullShare ((B.slice (Rect.unit (s := ⟨3, ![n, 32, 1152]⟩) o₂ S1x32x1152.size i₂) (fun _ => rfl)).squeeze S32x1152 squeezes_S1x32x1152_S32x1152) c (Agree g'))
      (do
        let a : Vec F S32x1152 .f32 ← Prog.lift (.load mA (Rect.unit (s := S1024x1152) o S32x1152.size i).toLoadRect hl₁)
        let r : Vec F S1x32x1152 .f32 ← Prog.lift (.load B (Rect.unit (s := ⟨3, ![n, 32, 1152]⟩) o₂ S1x32x1152.size i₂).toLoadRect hl₂)
        let _ : Vec F S32x1152 .f32 ← Prog.lift (.load mA (Rect.unit (s := S1024x1152) o S32x1152.size i).toLoadRect hl₃)
        Prog.lift (.store mA (Rect.unit (s := S1024x1152) o S32x1152.size i) (k0_pay134 a r) Finset.univ hst hor))
      iprop(held fullShare (mAc k) c (Agree (addC g g')) ∗ held fullShare ((B.slice (Rect.unit (s := ⟨3, ![n, 32, 1152]⟩) o₂ S1x32x1152.size i₂) (fun _ => rfl)).squeeze S32x1152 squeezes_S1x32x1152_S32x1152) c anyC) := by
  subst ho
  intro Q
  show _ ⊢ iprop(_ -∗ wp frame (wpE (defs₀ (F := F)) 𝒱₀ (c : Thread nD τ) none) Set.univ _ Q)
  simp only [Prog.lift, Prog.bind_op, Prog.bind_ret, Prog.pure_eq_ret]
  unfold held
  iintro ⟨⟨%f, %hf, HA⟩, ⟨%f', %hf', HB⟩⟩ Hk
  iapply (wp_load 𝒱₀ (c : Thread nD τ) none Set.univ (m := mA) (S := (mAc k).view.set) (le_of_eq (View.set_slice _ _).symm)) $$ HA; iintro HA
  iapply (wp_load 𝒱₀ (c : Thread nD τ) none Set.univ (m := B) (by rw [View.set_reshape, View.set_slice]; exact le_of_eq rfl)) $$ HB; iintro HB
  iapply (wp_load 𝒱₀ (c : Thread nD τ) none Set.univ (m := mA) (S := (mAc k).view.set) (le_of_eq (View.set_slice _ _).symm)) $$ HA; iintro HA
  iapply (wp_store 𝒱₀ (c : Thread nD τ) none Set.univ (m := mA) (r := Rect.unit (s := S1024x1152) ![k.val * 32, 0] S32x1152.size i) (Mk := Finset.univ) (S := (mAc k).view.set) (Finset.Subset.refl _)) $$ HA; iintro HA
  rw [wp_ret]; imodintro
  iapply Hk
  isplitl [HA]
  · iexists _
    isplitr
    rotate_left
    · iexact HA
    · ipureintro
      rw [pay134_eq]
      exact (congrArg (Agree (addC g g')) (View.read_write_univ (v := (mAc k).view) _ _)).mpr (hf.add hf')
  · iexists f'
    isplitr; · ipureintro; trivial
    iexact HB

/-! ## The steps of a round -/

variable (c : Dev nD)

/-- Starting round `s`'s copy to the right: the chunk, the slot at the neighbour and the collected rights are given
away, and the debt shrinks. -/
theorem sendR_triple (s : Fin 16) (b : ℕ) :
    Triple c iprop(recs m ρ K ∗ held fullShare (mAc (chunkR c s.val)) c (Agree (sentRv m ρ s.val c)) ∗ held fullShare (mRs s) (rgt c) anyC ∗ heldR s.val c
        ∗ owing c (oweRing c s.val b) ∗ dutyTok ER (kcell (c, some .sr)) s.val false ∗ reached ER (kcell (c, some .sr)) s.val ∗ dutyTok ER (kcell (rgt c, some (.r s))) 0 false)
      (sendR c s) iprop(cred (tallyAt (kcell (c, some .sr)) () NA) ∗ owing c (oweRing c (s.val + 1) b)) := by
  have h := send_own m ρ K c (rightOf c) .sr (.r s) s.val s.isLt Nat.one_pos (q₁ := srSem) (q₂ := rSem s) rfl rfl (src := mSendR c s) (dst := mRs s)
    (hs := View.wordExact_bits rfl) (hd := (View.wordExact_bits rfl).reshape _ _) (hsc := rfl) (hsem := ⟨⟨rfl, Or.inl rfl⟩, trivial⟩) NA rfl rfl rfl (O₀ := oweRing c s.val b) (oweRing c (s.val + 1) b)
    (by rw [rightOf_eq]; exact oweRing_peelR c s b) fullShare (Agree (sentRv m ρ s.val c)) (heldR s.val c)
    (by rw [mSendR_eq]; exact held_mono fun _ _ => trivial)
    (by rw [rightOf_eq]; show _ ⊢ iprop(held fullShare (mRs s) (rgt c) (Agree (sentRv m ρ s.val (lft (rgt c)))) ∗ heldR s.val (lft (rgt c))); rw [lft_rgt])
  rw [show (held fullShare (mSendR c s) c (Agree (sentRv m ρ s.val c)) : sProp 𝕄) = held fullShare (mAc (chunkR c s.val)) c (Agree (sentRv m ρ s.val c)) from by rw [mSendR_eq],
    show (held fullShare (mRs s) (rightOf c) anyC : sProp 𝕄) = held fullShare (mRs s) (rgt c) anyC from by rw [rightOf_eq],
    show (dutyTok ER (kcell (rightOf c, some (.r s))) 0 false : sProp 𝕄) = dutyTok ER (kcell (rgt c, some (.r s))) 0 false from by rw [rightOf_eq]] at h
  exact h

/-- Starting round `s`'s copy to the left: the chunk, the slot at the neighbour and the collected rights are given
away, and the debt shrinks. -/
theorem sendL_triple (s : Fin 15) (a : ℕ) :
    Triple c iprop(recs m ρ K ∗ held fullShare (mAc (chunkL c s.val)) c (Agree (sentLv m ρ s.val c)) ∗ held fullShare (mLs s) (lft c) anyC ∗ heldL s.val c
        ∗ owing c (oweRing c a s.val) ∗ dutyTok ER (kcell (c, some .sl)) s.val false ∗ reached ER (kcell (c, some .sl)) s.val ∗ dutyTok ER (kcell (lft c, some (.l s))) 0 false)
      (sendL c s) iprop(cred (tallyAt (kcell (c, some .sl)) () NA) ∗ owing c (oweRing c a (s.val + 1))) := by
  have h := send_own m ρ K c (leftOf c) .sl (.l s) s.val s.isLt Nat.one_pos (q₁ := slSem) (q₂ := lSem s) rfl rfl (src := mSendL c s) (dst := mLs s)
    (hs := View.wordExact_bits rfl) (hd := (View.wordExact_bits rfl).reshape _ _) (hsc := rfl) (hsem := ⟨⟨rfl, Or.inl rfl⟩, trivial⟩) NA rfl rfl rfl (O₀ := oweRing c a s.val) (oweRing c a (s.val + 1))
    (by rw [leftOf_eq]; exact oweRing_peelL c a s) fullShare (Agree (sentLv m ρ s.val c)) (heldL s.val c)
    (by rw [mSendL_eq]; exact held_mono fun _ _ => trivial)
    (by rw [leftOf_eq]; show _ ⊢ iprop(held fullShare (mLs s) (lft c) (Agree (sentLv m ρ s.val (rgt (lft c)))) ∗ heldL s.val (rgt (lft c))); rw [rgt_lft])
  rw [show (held fullShare (mSendL c s) c (Agree (sentLv m ρ s.val c)) : sProp 𝕄) = held fullShare (mAc (chunkL c s.val)) c (Agree (sentLv m ρ s.val c)) from by rw [mSendL_eq],
    show (held fullShare (mLs s) (leftOf c) anyC : sProp 𝕄) = held fullShare (mLs s) (lft c) anyC from by rw [leftOf_eq],
    show (dutyTok ER (kcell (leftOf c, some (.l s))) 0 false : sProp 𝕄) = dutyTok ER (kcell (lft c, some (.l s))) 0 false from by rw [leftOf_eq]] at h
  exact h

/-- Adding what landed from the left in round `s` to the device's chunk. -/
theorem addR_triple (s : Fin 16) (g g' : Chunk F) :
    Triple c iprop(held fullShare (mAc (chunkR c (s.val + 1))) c (Agree g) ∗ held fullShare (mRs s) c (Agree g')) (addR c s)
      iprop(held fullShare (mAc (chunkR c (s.val + 1))) c (Agree (addC g g')) ∗ held fullShare (mRs s) c anyC) :=
  add_triple c (chunkR c (s.val + 1)) _ (off3_eq c s) mR (inbR s) g g' _ _ _ _ _
/-- Adding what landed from the right in round `s` to the device's chunk. -/
theorem addL_triple (s : Fin 15) (g g' : Chunk F) :
    Triple c iprop(held fullShare (mAc (chunkL c (s.val + 1))) c (Agree g) ∗ held fullShare (mLs s) c (Agree g')) (addL c s)
      iprop(held fullShare (mAc (chunkL c (s.val + 1))) c (Agree (addC g g')) ∗ held fullShare (mLs s) c anyC) :=
  add_triple c (chunkL c (s.val + 1)) _ (off4_eq c s) mL (inbL s) g g' _ _ _ _ _

/-- What arrives with a chunk from the left: the chunk, and the places for its rows on the devices it has passed. -/
theorem payOf_r (s : Fin 16) (r : ℕ) (d : Bool) :
    payOf m ρ (some (.r s)) c r d = iprop(held fullShare (mRs s) c (Agree (sentRv m ρ s.val (lft c))) ∗ heldR s.val (lft c)) := rfl
/-- What arrives with a chunk from the right. -/
theorem payOf_l (s : Fin 15) (r : ℕ) (d : Bool) :
    payOf m ρ (some (.l s)) c r d = iprop(held fullShare (mLs s) c (Agree (sentLv m ρ s.val (rgt c))) ∗ heldL s.val (rgt c)) := rfl

omit [FloatOps F] in
/-- The rights of the next round, going right: the device's own and those that came from the left. -/
theorem heldR_succ (s : ℕ) : (heldR (F := F) (s + 1) c : sProp 𝕄) = iprop(anyRows c (chunkR c (s + 1)) ∗ heldR s (lft c)) := rfl
omit [FloatOps F] in
/-- The rights of the next round, going left: the device's own and those that came from the right. -/
theorem heldL_succ (s : ℕ) : (heldL (F := F) (s + 1) c : sProp 𝕄) = iprop(anyRows c (chunkL c (s + 1)) ∗ heldL s (rgt c)) := rfl

/-- What the report of a copy to the right hands back. -/
theorem payOf_sr (r : ℕ) (d : Bool) : payOf m ρ (some .sr) c r d = held fullShare (mAc (chunkR c r)) c anyC := rfl
/-- What the report of a copy to the left hands back. -/
theorem payOf_sl (r : ℕ) (d : Bool) : payOf m ρ (some .sl) c r d = held fullShare (mAc (chunkL c r)) c anyC := rfl

/-- What round `s` to the right takes besides the chunk: the tokens it pays with, its place in the cell it waits at, and the
    right neighbour's slot. -/
def wayR (s : Fin 16) : sProp 𝕄 :=
  iprop(dutyTok ER (kcell (c, some .sr)) s.val false ∗ dutyTok ER (kcell (rgt c, some (.r s))) 0 false
    ∗ atPos ER (kcell (c, some (.r s))) 0 ∅ 0 ∗ cred (tallyAt (kcell (c, some (.r s))) () NA) ∗ held fullShare (mRs s) (rgt c) anyC)
/-- The same to the left. -/
def wayL (s : Fin 15) : sProp 𝕄 :=
  iprop(dutyTok ER (kcell (c, some .sl)) s.val false ∗ dutyTok ER (kcell (lft c, some (.l s))) 0 false
    ∗ atPos ER (kcell (c, some (.l s))) 0 ∅ 0 ∗ cred (tallyAt (kcell (c, some (.l s))) () NA) ∗ held fullShare (mLs s) (lft c) anyC)
/-- What is left of it: the cell's round is over, the device's own slot and the chunk that was sent are free. -/
def doneR (s : Fin 16) : sProp 𝕄 :=
  iprop(atPos ER (kcell (c, some (.r s))) 1 ∅ 0 ∗ held fullShare (mRs s) c anyC ∗ held fullShare (mAc (chunkR c s.val)) c anyC)
def doneL (s : Fin 15) : sProp 𝕄 :=
  iprop(atPos ER (kcell (c, some (.l s))) 1 ∅ 0 ∗ held fullShare (mLs s) c anyC ∗ held fullShare (mAc (chunkL c s.val)) c anyC)
/-- What goes from round to round to the right: the place in the send cell, the chunk to send with the places for its rows. -/
def curR (k : ℕ) : sProp 𝕄 :=
  iprop(atPos ER (kcell (c, some .sr)) k ∅ 0 ∗ reached ER (kcell (c, some .sr)) k ∗ held fullShare (mAc (chunkR c k)) c (Agree (sentRv m ρ k c)) ∗ heldR k c)
def curL (k : ℕ) : sProp 𝕄 :=
  iprop(atPos ER (kcell (c, some .sl)) k ∅ 0 ∗ reached ER (kcell (c, some .sl)) k ∗ held fullShare (mAc (chunkL c k)) c (Agree (sentLv m ρ k c)) ∗ heldL k c)
/-- The device's own sums of a chunk, and the place for the chunk's rows. -/
def freshC (k : Dev nD) : sProp 𝕄 := iprop(held fullShare (mAc k) c (Agree (locC m ρ c k)) ∗ anyRows c k)

/-- One round of the ring. -/
theorem ring_triple (s : Fin 15) :
    Triple c iprop(recs m ρ K ∗ (owing c (oweRing c s.val s.val) ∗ curR m ρ c s.val ∗ curL m ρ c s.val)
        ∗ wayR c (up s) ∗ wayL c s ∗ freshC m ρ c (chunkR c (s.val + 1)) ∗ freshC m ρ c (chunkL c (s.val + 1)))
      (ringStep c s)
      iprop((owing c (oweRing c (s.val + 1) (s.val + 1)) ∗ curR m ρ c (s.val + 1) ∗ curL m ρ c (s.val + 1)) ∗ doneR c (up s) ∗ doneL c s) := by
  intro Q
  unfold ringStep
  simp only [wpT_bind]
  unfold curR curL wayR wayL freshC doneR doneL
  iintro ⟨#HR, ⟨HO, ⟨HpR, #HrR, HaR, HhR⟩, HpL, #HrL, HaL, HhL⟩, ⟨HtR, HtR', HqR, HcR, HsR⟩, ⟨HtL, HtL', HqL, HcL, HsL⟩, ⟨HfR, HgR⟩, HfL, HgL⟩ Hk
  iapply (sendR_triple m ρ K c (up s) s.val _) $$ [HO HaR HhR HtR HtR' HsR]
  · isplitr; · iexact HR
    isplitl [HaR]; · iexact HaR
    isplitl [HsR]; · iexact HsR
    isplitl [HhR]; · iexact HhR
    isplitl [HO]; · iexact HO
    isplitl [HtR]; · iexact HtR
    isplitr; · iexact HrR
    iexact HtR'
  iintro ⟨HsentR, HO⟩
  iapply (sendL_triple m ρ K c s (s.val + 1) _) $$ [HO HaL HhL HtL HtL' HsL]
  · isplitr; · iexact HR
    isplitl [HaL]; · iexact HaL
    isplitl [HsL]; · iexact HsL
    isplitl [HhL]; · iexact HhL
    isplitl [HO]; · iexact HO
    isplitl [HtL]; · iexact HtL
    isplitr; · iexact HrL
    iexact HtL'
  iintro ⟨HsentL, HO⟩
  iapply (wait_own m ρ K c (.r (up s)) 0 Nat.one_pos (q := rSem (up s)) rfl (dst := mRs (up s)) rfl (oweRing c (s.val + 1) (s.val + 1))
    (above_ring c _ _ _ (by show 3 + 2 * s.val < 100; omega) (by show 3 + 2 * s.val < _; omega) (by show 3 + 2 * s.val < _; omega)) _) $$ [HO HcR HqR]
  · isplitr; · iexact HR
    isplitl [HcR]; · iexact HcR
    isplitl [HO]; · iexact HO
    iexact HqR
  iintro ⟨HO, HqR, -, Hpay⟩
  ihave Hpay := (Entails.of_eq (payOf_r m ρ c (up s) 0 false)) $$ Hpay
  icases Hpay with ⟨HlR, HhR⟩
  iapply (wait_own m ρ K c (.l s) 0 Nat.one_pos (q := lSem s) rfl (dst := mLs s) rfl (oweRing c (s.val + 1) (s.val + 1))
    (above_ring c _ _ _ (by show 4 + 2 * s.val < 100; omega) (by show 4 + 2 * s.val < _; omega) (by show 4 + 2 * s.val < _; omega)) _) $$ [HO HcL HqL]
  · isplitr; · iexact HR
    isplitl [HcL]; · iexact HcL
    isplitl [HO]; · iexact HO
    iexact HqL
  iintro ⟨HO, HqL, -, Hpay⟩
  ihave Hpay := (Entails.of_eq (payOf_l m ρ c s 0 false)) $$ Hpay
  icases Hpay with ⟨HlL, HhL⟩
  iapply (addR_triple c (up s) _ _ _) $$ [HfR HlR]
  · isplitl [HfR]; · iexact HfR
    iexact HlR
  iintro ⟨HaR, HlR⟩
  iapply (addL_triple c s _ _ _) $$ [HfL HlL]
  · isplitl [HfL]; · iexact HfL
    iexact HlL
  iintro ⟨HaL, HlL⟩
  iapply (wait_own m ρ K c .sr s.val (by show s.val < 16; omega) (q := srSem) rfl (dst := mSendR c (up s)) rfl (oweRing c (s.val + 1) (s.val + 1))
    (above_ring c _ _ _ (by decide) (by show 0 < _; omega) (by show 0 < _; omega)) _) $$ [HO HsentR HpR]
  · isplitr; · iexact HR
    isplitl [HsentR]; · iexact HsentR
    isplitl [HO]; · iexact HO
    iexact HpR
  iintro ⟨HO, HpR, HrR', Hpay⟩
  ihave HbR := (Entails.of_eq (payOf_sr m ρ c s.val false)) $$ Hpay
  iapply (wait_own m ρ K c .sl s.val (by show s.val < 15; omega) (q := slSem) rfl (dst := mSendL c s) rfl (oweRing c (s.val + 1) (s.val + 1))
    (above_ring c _ _ _ (by decide) (by show 0 < _; omega) (by show 0 < _; omega)) _) $$ [HO HsentL HpL]
  · isplitr; · iexact HR
    isplitl [HsentL]; · iexact HsentL
    isplitl [HO]; · iexact HO
    iexact HpL
  iintro ⟨HO, HpL, HrL', Hpay⟩
  ihave HbL := (Entails.of_eq (payOf_sl m ρ c s.val false)) $$ Hpay
  iapply Hk
  isplitl [HO HpR HrR' HaR HgR HhR HpL HrL' HaL HgL HhL]
  · isplitl [HO]; · iexact HO
    isplitl [HpR HrR' HaR HgR HhR]
    · isplitl [HpR]; · iexact HpR
      isplitl [HrR']; · iexact HrR'
      isplitl [HaR]; · iexact HaR
      rw [heldR_succ c s.val]
      isplitl [HgR]; · iexact HgR
      iexact HhR
    · isplitl [HpL]; · iexact HpL
      isplitl [HrL']; · iexact HrL'
      isplitl [HaL]; · iexact HaL
      rw [heldL_succ c s.val]
      isplitl [HgL]; · iexact HgL
      iexact HhL
  isplitl [HqR HlR HbR]
  · isplitl [HqR]; · iexact HqR
    isplitl [HlR]; · iexact HlR
    iexact HbR
  · isplitl [HqL]; · iexact HqL
    isplitl [HlL]; · iexact HlL
    iexact HbL

/-- The last chunk that arrives is added to the device's own. -/
theorem addOwn_triple (g g' : Chunk F) :
    Triple c iprop(held fullShare (mAc c) c (Agree g) ∗ held fullShare (mRs 15) c (Agree g')) (addR c 15)
      iprop(held fullShare (mAc c) c (Agree (addC g g')) ∗ held fullShare (mRs 15) c anyC) := by
  have h := addR_triple c 15 g g'
  rw [show chunkR c ((15 : Fin 16).val + 1) = c from rot_zero _ c (by decide)] at h
  exact h

/-- The last round: to the right only. The device's own chunk is then complete. -/
theorem last_triple :
    Triple c iprop(recs m ρ K ∗ (owing c (oweRing c 15 15) ∗ curR m ρ c 15 ∗ curL m ρ c 15) ∗ wayR c 15) (lastStep c)
      iprop(owing c (oweG c 0) ∗ atPos ER (kcell (c, some .sr)) 16 ∅ 0 ∗ atPos ER (kcell (c, some .sl)) 15 ∅ 0
        ∗ held fullShare (mAc c) c (Agree (sumC m ρ c)) ∗ heldR 15 (lft c) ∗ heldL 15 c ∗ doneR c 15) := by
  intro Q
  unfold lastStep
  simp only [wpT_bind]
  unfold curR curL wayR doneR
  have hc : chunkL c 15 = c := rot_zero _ c (by decide)
  have hO : oweRing c ((15 : Fin 16).val + 1) 15 = oweG c 0 := oweRing_end c
  rw [hc]
  unfold sumC
  iintro ⟨#HR, ⟨HO, ⟨HpR, #HrR, HaR, HhR⟩, HpL, -, HaL, HhL⟩, HtR, HtR', HqR, HcR, HsR⟩ Hk
  iapply (sendR_triple m ρ K c 15 15 _) $$ [HO HaR HhR HtR HtR' HsR]
  · isplitr; · iexact HR
    isplitl [HaR]; · iexact HaR
    isplitl [HsR]; · iexact HsR
    isplitl [HhR]; · iexact HhR
    isplitl [HO]; · iexact HO
    isplitl [HtR]; · iexact HtR
    isplitr; · iexact HrR
    iexact HtR'
  rw [hO]
  iintro ⟨HsentR, HO⟩
  iapply (wait_own m ρ K c (.r 15) 0 Nat.one_pos (q := rSem 15) rfl (dst := mRs 15) rfl (oweG c 0) (above_G c _ _ (by decide)) _) $$ [HO HcR HqR]
  · isplitr; · iexact HR
    isplitl [HcR]; · iexact HcR
    isplitl [HO]; · iexact HO
    iexact HqR
  iintro ⟨HO, HqR, -, Hpay⟩
  ihave Hpay := (Entails.of_eq (payOf_r m ρ c 15 0 false)) $$ Hpay
  icases Hpay with ⟨HlR, HhR⟩
  iapply (addOwn_triple c (sentLv m ρ 15 c) (sentRv m ρ 15 (lft c)) _) $$ [HaL HlR]
  · isplitl [HaL]; · iexact HaL
    iexact HlR
  iintro ⟨HaL, HlR⟩
  iapply (wait_own m ρ K c .sr 15 (by decide) (q := srSem) rfl (dst := mSendR c 15) rfl (oweG c 0) (above_G c _ _ (by decide)) _) $$ [HO HsentR HpR]
  · isplitr; · iexact HR
    isplitl [HsentR]; · iexact HsentR
    isplitl [HO]; · iexact HO
    iexact HpR
  iintro ⟨HO, HpR, -, Hpay⟩
  ihave HbR := (Entails.of_eq (payOf_sr m ρ c 15 false)) $$ Hpay
  iapply Hk
  isplitl [HO]; · iexact HO
  isplitl [HpR]; · iexact HpR
  isplitl [HpL]; · iexact HpL
  isplitl [HaL]; · iexact HaL
  isplitl [HhR]; · iexact HhR
  isplitl [HhL]; · iexact HhL
  isplitl [HqR]; · iexact HqR
  isplitl [HlR]; · iexact HlR
  iexact HbR

/-! ## The device's own rows -/

omit [FloatOps F] in
/-- A load inside a chunk of the accumulator stays inside its elements. -/
theorem chunk_subset (k : Dev nD) {o sz : Fin 2 → ℕ} (i : ∀ a, o a + sz a ≤ S1024x1152.size a) (h₀ : k.val * 32 ≤ o 0) (h₁ : o 0 + sz 0 ≤ k.val * 32 + 32) :
    mA.view.setOn (Rect.unit (s := S1024x1152) o sz i).toLoadRect.set ⊆ (mAc k).view.set := by
  rw [View.set_slice]
  refine Finset.map_subset_map.mpr fun j hj => ?_
  have hj' := Rect.mem_set_unit.mp hj
  refine Rect.mem_set_unit.mpr fun a => ?_
  have h := hj' a
  match a with
  | ⟨0, _⟩ => exact ⟨le_trans h₀ h.1, lt_of_lt_of_le h.2 h₁⟩
  | ⟨1, _⟩ => exact ⟨Nat.zero_le _, lt_of_lt_of_eq (idx2_lt1 j) (Nat.zero_add _).symm⟩

/-- The denominators that the kernel loads are those of the chunk. -/
theorem load_den (k : Dev nD) {o : Fin 2 → ℕ} (i : ∀ a, o a + S32x8.size a ≤ S1024x1152.size a) (ho : o = ![k.val * 32, 1024]) (f : (cc0_scratch0 : Ref sig .tc).ty.Contents (Elt F)) :
    mA.view.readAt (Elt F) (Rect.unit (s := S1024x1152) o S32x8.size i).toLoadRect f = denC ((mAc k).view.read (Elt F) f) := by
  subst ho
  funext p
  unfold denC
  rw [read_mAc]
  refine congrArg f (funext fun a => ?_)
  match a with
  | ⟨0, _⟩ => exact Fin.ext (by show k.val * 32 + 1 * (p 0).val = _; rw [Nat.one_mul])
  | ⟨1, _⟩ => exact Fin.ext (by show 1024 + 1 * (p 1).val = _; rw [Nat.one_mul])
/-- The numerators that the kernel loads are those of the chunk. -/
theorem load_num (k : Dev nD) {o : Fin 2 → ℕ} (i : ∀ a, o a + S32x1024.size a ≤ S1024x1152.size a) (ho : o = ![k.val * 32, 0]) (f : (cc0_scratch0 : Ref sig .tc).ty.Contents (Elt F)) :
    mA.view.readAt (Elt F) (Rect.unit (s := S1024x1152) o S32x1024.size i).toLoadRect f = numC ((mAc k).view.read (Elt F) f) := by
  subst ho
  funext p
  unfold numC
  rw [read_mAc]
  refine congrArg f (funext fun a => ?_)
  match a with
  | ⟨0, _⟩ => exact Fin.ext (by show k.val * 32 + 1 * (p 0).val = _; rw [Nat.one_mul])
  | ⟨1, _⟩ => exact Fin.ext (by show 0 + 1 * (p 1).val = _; rw [Nat.one_mul, Nat.zero_add])

omit [FloatOps F] in
/-- Chunks that agree have the same denominators. -/
theorem Agree.den {g f : Chunk F} (h : Agree g f) : denC f = denC g :=
  funext fun p => h _ (by show 1024 + (p 1).val < 1032; have := idx2_lt1 p; omega)
omit [FloatOps F] in
/-- Chunks that agree have the same numerators. -/
theorem Agree.num {g f : Chunk F} (h : Agree g f) : numC f = numC g :=
  funext fun p => h _ (by show (p 1).val < 1032; have := idx2_lt1 p; omega)

/-- Normalising chunk `c` and applying the output weights, at offsets known by their values. -/
theorem rows_at {o₅ o₆ o₇ : Fin 2 → ℕ} (i₅ : ∀ a, o₅ a + S32x8.size a ≤ S1024x1152.size a) (i₆ : ∀ a, o₆ a + S32x1024.size a ≤ S1024x1152.size a)
    (i₇ : ∀ a, o₇ a + S32x1024.size a ≤ S1024x1024.size a) (h₅ : o₅ = ![c.val * 32, 1024]) (h₆ : o₆ = ![c.val * 32, 0]) (h₇ : o₇ = ![c.val * 32, 0])
    (g : Chunk F) (w : (cc0_stg2_0 : Ref sig .tc).ty.Contents (Elt F)) (hl₅) (hl₆) (hlw) (hl₇) (hst) (hor) :
    Triple c iprop(held fullShare (mAc c) c (Agree g) ∗ held fullShare (mOc c) c anyC ∗ (((c : Thread nD τ).loc cc0_stg2_0) ↦{fullShare} w))
      (do
        let l : Vec F S32x8 .f32 ← Prog.lift (.load mA (Rect.unit (s := S1024x1152) o₅ S32x8.size i₅).toLoadRect hl₅)
        let o : Vec F S32x1024 .f32 ← Prog.lift (.load mA (Rect.unit (s := S1024x1152) o₆ S32x1024.size i₆).toLoadRect hl₆)
        let w : Vec F S1024x1024 .f32 ← Prog.lift (.load mWo (Rect.unit (s := S1024x1024) ![0, 0] S1024x1024.size inb_S1024x1024_S1024x1024_0_0).toLoadRect hlw)
        let _ : Vec F S32x1024 .f32 ← Prog.lift (.load mO (Rect.unit (s := S1024x1024) o₇ S32x1024.size i₇).toLoadRect hl₇)
        Prog.lift (.store mO (Rect.unit (s := S1024x1024) o₇ S32x1024.size i₇) (rowsVal l o w) Finset.univ hst hor))
      iprop(held fullShare (mAc c) c anyC ∗ held fullShare (mOc c) c (· = rowsVal (denC g) (numC g) w) ∗ (((c : Thread nD τ).loc cc0_stg2_0) ↦{fullShare} w)) := by
  subst h₇
  intro Q
  show _ ⊢ iprop(_ -∗ wp frame (wpE (defs₀ (F := F)) 𝒱₀ (c : Thread nD τ) none) Set.univ _ Q)
  simp only [Prog.lift, Prog.bind_op, Prog.bind_ret, Prog.pure_eq_ret]
  unfold held
  iintro ⟨⟨%f, %hf, HA⟩, ⟨%f', -, HB⟩, HW⟩ Hk
  iapply (wp_load 𝒱₀ (c : Thread nD τ) none Set.univ (m := mA) (S := (mAc c).view.set) (chunk_subset c i₅ (by rw [h₅]; exact le_refl _) (by rw [h₅]; exact le_refl _))) $$ HA; iintro HA
  iapply (wp_load 𝒱₀ (c : Thread nD τ) none Set.univ (m := mA) (S := (mAc c).view.set) (chunk_subset c i₆ (by rw [h₆]; exact le_refl _) (by rw [h₆]; exact le_refl _))) $$ HA; iintro HA
  iapply (wp_load 𝒱₀ (c : Thread nD τ) none Set.univ (m := mWo) (S := Finset.univ) (Finset.subset_univ _)) $$ HW; iintro HW
  iapply (wp_load 𝒱₀ (c : Thread nD τ) none Set.univ (m := mO) (S := (mOc c).view.set) (le_of_eq (View.set_slice _ _).symm)) $$ HB; iintro HB
  iapply (wp_store 𝒱₀ (c : Thread nD τ) none Set.univ (m := mO) (r := Rect.unit (s := S1024x1024) ![c.val * 32, 0] S32x1024.size i₇) (Mk := Finset.univ) (S := (mOc c).view.set) (Finset.Subset.refl _)) $$ HB; iintro HB
  rw [wp_ret]; imodintro
  iapply Hk
  isplitl [HA]
  · iexists f
    isplitr; · ipureintro; trivial
    iexact HA
  isplitl [HB]
  · iexists _
    isplitr
    rotate_left
    · iexact HB
    · ipureintro
      refine (View.read_write_univ (v := (mOc c).view) _ _).trans ?_
      rw [load_den c i₅ h₅, load_num c i₆ h₆, hf.den, hf.num, show mWo.view.readAt (Elt F) (Rect.unit (s := S1024x1024) ![0, 0] S1024x1024.size inb_S1024x1024_S1024x1024_0_0).toLoadRect w = w from
        Memref.readAt_unit_zero (Elt F) cc0_stg2_0 (by decide) _ w]
  · iexact HW

/-- The device's rows of the result. -/
theorem rows_triple :
    Triple c iprop(held fullShare (mAc c) c (Agree (sumC m ρ c)) ∗ held fullShare (mOc c) c anyC ∗ (((c : Thread nD τ).loc cc0_stg2_0) ↦{fullShare} woIn m ρ c)) (rowsStep c)
      iprop(held fullShare (mAc c) c anyC ∗ held fullShare (mOc c) c (· = outRows m ρ c) ∗ (((c : Thread nD τ).loc cc0_stg2_0) ↦{fullShare} woIn m ρ c)) :=
  rows_at c (k0_off5_inb c) (k0_off6_inb c) (k0_off7_inb c) (off5_eq c) (off6_eq c) (off7_eq c) _ _ _ _ _ _ _ _

end Attn

end
-- ==== Proof.Body.lean ====
/- The whole body on one device. -/
module

public import proofs.«01_k».proof.Proof.Pieces
public import proofs.«01_k».proof.Proof.Ring

@[expose] public section

noncomputable section

namespace Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Pipeline (chain)

variable {F : FTy → Type} [FloatOps F]
local notation "𝕄" => MT nD τ sig Unit (Elt F) ℕ UU ℕ
variable (m : (ℓ : Loc nD τ sig) → Buf (Elt F) ℓ) (ρ : Dev nD → PrngReg)
variable (K : Dev nD × Cell → ℕ) (c : Dev nD)

/-! ## Families over the cells -/

omit [FloatOps F] in
/-- A product over a device's own cells is the product over its kinds: ring sends, idle gather cells, ring landings,
gather sends and gather arrivals. -/
theorem own_families (Φ : Own → sProp 𝕄) :
    bigSep Finset.univ Φ = iprop(((Φ .sr ∗ Φ .sl) ∗ (Φ (.idle true) ∗ Φ (.idle false)))
      ∗ ((bigSep Finset.univ fun s : Fin 16 => Φ (.r s)) ∗ bigSep Finset.univ fun s : Fin 15 => Φ (.l s))
      ∗ ((bigSep Finset.univ fun e : Fin 31 => Φ (.gs e)) ∗ bigSep Finset.univ fun e : Fin 31 => Φ (.gr e))) := by
  have hb (Ψ : Bool → sProp 𝕄) : bigSep Finset.univ Ψ = iprop(Ψ true ∗ Ψ false) := by
    rw [bigSep_univ_eq_bigSepL [true, false] (by decide) (by decide), bigSepL_cons_cons, bigSepL_singleton]; rfl
  rw [bigSep_univ_equiv Own.families, bigSep_univ_sum, bigSep_univ_sum, bigSep_univ_sum, bigSep_univ_sum, bigSep_univ_sum, hb, hb]
  rfl
omit [FloatOps F] in
/-- A family over the cells: the barrier's member and the own ones by kind. -/
theorem cell_families (Φ : Cell → sProp 𝕄) :
    bigSep Finset.univ Φ = iprop((((Φ (some .sr) ∗ Φ (some .sl)) ∗ (Φ (some (.idle true)) ∗ Φ (some (.idle false))))
      ∗ ((bigSep Finset.univ fun s : Fin 16 => Φ (some (.r s))) ∗ bigSep Finset.univ fun s : Fin 15 => Φ (some (.l s)))
      ∗ ((bigSep Finset.univ fun e : Fin 31 => Φ (some (.gs e))) ∗ bigSep Finset.univ fun e : Fin 31 => Φ (some (.gr e)))) ∗ Φ none) := by
  rw [bigSep_univ_equiv (Equiv.optionEquivSumPUnit.{0} Own).symm, bigSep_univ_sum, BI.bigSep_univ_of_subsingleton PUnit.unit]
  show iprop((bigSep Finset.univ fun o : Own => Φ (some o)) ∗ Φ none) = _
  rw [own_families]

/-! ## What a device starts with -/

/-- The tokens a device pays with: at the barrier, in the ring, in the gathering. -/
def payToks : sProp 𝕄 :=
  iprop((dutyTok ER (kcell (lft c, none)) 0 true ∗ dutyTok ER (kcell (rgt c, none)) 0 false)
    ∗ ((bigSep Finset.univ fun s : Fin 16 => dutyTok ER (kcell (c, some .sr)) s.val false)
      ∗ bigSep Finset.univ fun s : Fin 16 => dutyTok ER (kcell (rgt c, some (.r s))) 0 false)
    ∗ ((bigSep Finset.univ fun s : Fin 15 => dutyTok ER (kcell (c, some .sl)) s.val false)
      ∗ bigSep Finset.univ fun s : Fin 15 => dutyTok ER (kcell (lft c, some (.l s))) 0 false)
    ∗ ((bigSep Finset.univ fun e : Fin 31 => dutyTok ER (kcell (c, some (.gs e))) 0 false)
      ∗ bigSep Finset.univ fun e : Fin 31 => dutyTok ER (kcell (rot (1 + e.val) c, some (.gr (opp e)))) 0 false))

/-- What a device is owed. -/
def creds : sProp 𝕄 :=
  iprop(cred (tallyAt (kcell (c, none)) () 2) ∗ (bigSep Finset.univ fun s : Fin 16 => cred (tallyAt (kcell (c, some (.r s))) () NA))
    ∗ (bigSep Finset.univ fun s : Fin 15 => cred (tallyAt (kcell (c, some (.l s))) () NA))
    ∗ bigSep Finset.univ fun e : Fin 31 => cred (tallyAt (kcell (c, some (.gr e))) () NO))

/-- A device's scratch buffers, at any contents. -/
def scratch : sProp 𝕄 :=
  iprop((∃ f : Buf (Elt F) _, ((c : Thread nD τ).loc cc0_scratch0) ↦{fullShare} f) ∗ (∃ f : Buf (Elt F) _, ((c : Thread nD τ).loc cc0_scratch1) ↦{fullShare} f)
    ∗ ∃ f : Buf (Elt F) _, ((c : Thread nD τ).loc cc0_scratch2) ↦{fullShare} f)

/-- A device's staged inputs. -/
def inputs : sProp 𝕄 :=
  iprop((((c : Thread nD τ).loc cc0_stg0_0) ↦{fullShare} xIn m ρ c) ∗ (((c : Thread nD τ).loc cc0_stg1_0) ↦{fullShare} wqIn m ρ c)
    ∗ (((c : Thread nD τ).loc cc0_stg2_0) ↦{fullShare} woIn m ρ c) ∗ (((c : Thread nD τ).loc cc0_stg3_0) ↦{fullShare} kIn m ρ c)
    ∗ (((c : Thread nD τ).loc cc0_stg4_0) ↦{fullShare} vIn m ρ c))

/-! ## The barrier -/

/-- The slots go to the neighbours that fill them. -/
theorem barrier_run (Q : PUnit → sProp 𝕄) :
    iprop(recs m ρ K ∗ owing c (owe₀ c) ∗ (dutyTok ER (kcell (lft c, none)) 0 true ∗ dutyTok ER (kcell (rgt c, none)) 0 false) ∗ cred (tallyAt (kcell (c, none)) () 2)
        ∗ atPos ER (kcell (c, none)) 0 ∅ 0 ∗ (bigSep Finset.univ fun s : Fin 16 => held fullShare (mRs s) c anyC) ∗ (bigSep Finset.univ fun s : Fin 15 => held fullShare (mLs s) c anyC))
      ⊢ iprop((owing c (oweRing c 0 0) ∗ atPos ER (kcell (c, none)) 1 ∅ 0 ∗ (bigSep Finset.univ fun s : Fin 16 => held fullShare (mRs s) (rgt c) anyC)
          ∗ (bigSep Finset.univ fun s : Fin 15 => held fullShare (mLs s) (lft c) anyC) -∗ Q ⟨⟩)
        -∗ wpT c (semSignalWord (leftOf c) barSem 1#32) fun _ => wpT c (semSignalWord (rightOf c) barSem 1#32) fun _ => wpT c (semWaitWord barSem 2#32) Q) := by
  rw [leftOf_eq, rightOf_eq]
  have h1 := signal_triple m ρ K c (lft c) true (owe₁ c) rfl
  have h2 := signal_triple m ρ K c (rgt c) false (oweRing c 0 0) rfl
  have h3 := barrier_triple m ρ K c (oweRing c 0 0) (above_ring c 1 0 0 (by decide) (by decide) (by decide))
  have e1 : payOf (F := F) m ρ none (lft c) 0 true = bigSep Finset.univ fun s : Fin 16 => held fullShare (mRs s) c anyC := by
    show (bigSep Finset.univ fun s : Fin 16 => held fullShare (mRs s) (rgt (lft c)) anyC) = _; rw [rgt_lft]
  have e2 : payOf (F := F) m ρ none (rgt c) 0 false = bigSep Finset.univ fun s : Fin 15 => held fullShare (mLs s) c anyC := by
    show (bigSep Finset.univ fun s : Fin 15 => held fullShare (mLs s) (lft (rgt c)) anyC) = _; rw [lft_rgt]
  have e3 : payOf (F := F) m ρ none c 0 true = bigSep Finset.univ fun s : Fin 16 => held fullShare (mRs s) (rgt c) anyC := rfl
  have e4 : payOf (F := F) m ρ none c 0 false = bigSep Finset.univ fun s : Fin 15 => held fullShare (mLs s) (lft c) anyC := rfl
  rw [e1] at h1; rw [e2] at h2; rw [e3, e4] at h3
  iintro ⟨#HR, HO, ⟨Ht, Ht'⟩, Hc, Hat, HsR, HsL⟩ Hk
  iapply (h1 _) $$ [HO Ht HsR]
  · isplitr; · iexact HR
    isplitl [HO]; · iexact HO
    isplitl [Ht] <;> iassumption
  iintro HO
  iapply (h2 _) $$ [HO Ht' HsL]
  · isplitr; · iexact HR
    isplitl [HO]; · iexact HO
    isplitl [Ht'] <;> iassumption
  iintro HO
  iapply (h3 _) $$ [HO Hc Hat]
  · isplitr; · iexact HR
    isplitl [Hc]; · iexact Hc
    isplitl [HO] <;> iassumption
  iintro ⟨HO, Hat, HL, HR'⟩
  iapply Hk
  isplitl [HO]; · iexact HO
  isplitl [Hat]; · iexact Hat
  isplitl [HR']; · iexact HR'
  iexact HL

/-! ## The ring -/

/-- All sixteen rounds: the device's own chunk is summed, and the places for its rows on all devices have arrived. -/
theorem ring_run (Q : PUnit → sProp 𝕄) :
    iprop(recs m ρ K ∗ owing c (oweRing c 0 0) ∗ (atPos ER (kcell (c, some .sr)) 0 ∅ 0 ∗ atPos ER (kcell (c, some .sl)) 0 ∅ 0)
        ∗ (bigSep Finset.univ (wayR (F := F) c)) ∗ (bigSep Finset.univ (wayL (F := F) c)) ∗ bigSep Finset.univ (freshC m ρ c))
      ⊢ iprop((owing c (oweG c 0) ∗ (atPos ER (kcell (c, some .sr)) 16 ∅ 0 ∗ atPos ER (kcell (c, some .sl)) 15 ∅ 0)
          ∗ (bigSep Finset.univ (doneR (F := F) c)) ∗ (bigSep Finset.univ (doneL (F := F) c)) ∗ held fullShare (mAc c) c (Agree (sumC m ρ c))
          ∗ anyRows c c ∗ (bigSep Finset.univ fun e : Fin 31 => anyRows (rot (1 + e.val) c) c) -∗ Q ⟨⟩)
        -∗ wpT c (chain (rounds.map (ringStep c))) fun _ => wpT c (lastStep c) Q) := by
  have h1 := wp_loop c (recs m ρ K) (fun k => iprop(owing c (oweRing c k k) ∗ curR m ρ c k ∗ curL m ρ c k)) _ _ (ringStep c) (ring_triple m ρ K c) rounds (by decide)
  have h2 := last_triple m ρ K c
  simp only [bigSep_sep'] at h1
  rw [last_apart (wayR (F := F) c), last_apart (doneR (F := F) c), chunks_out c (freshC m ρ c)]
  have hsr := reached_at m ρ K (c, some .sr)
  have hsl := reached_at m ρ K (c, some .sl)
  have hp := places_all (F := F) c
  iintro ⟨#HR, HO, ⟨Hsr, Hsl⟩, ⟨HwR, HwR'⟩, HwL, ⟨HcR, HfR⟩, HcL, HfL⟩ Hk
  unfold freshC
  icases HcR with ⟨HaR, HoR⟩
  icases HcL with ⟨HaL, HoL⟩
  iapply (h1 _) $$ [HO Hsr Hsl HwR HwL HfR HfL HaR HoR HaL HoL]
  · isplitr; · iexact HR
    isplitl [HO Hsr HaR HoR Hsl HaL HoL]
    · isplitl [HO]; · iexact HO
      unfold curR curL heldR heldL
      isplitl [Hsr HaR HoR]
      · isplitl [Hsr]; · iexact Hsr
        isplitr; · iapply hsr; iexact HR
        isplitl [HaR]; · iexact HaR
        iexact HoR
      · isplitl [Hsl]; · iexact Hsl
        isplitr; · iapply hsl; iexact HR
        isplitl [HaL]; · iexact HaL
        iexact HoL
    unfold freshC
    isplitl [HwR]; · iexact HwR
    isplitl [HwL]; · iexact HwL
    isplitl [HfR] <;> iassumption
  iintro ⟨HC, HdR, HdL⟩
  iapply (h2 _) $$ [HC HwR']
  · isplitr; · iexact HR
    isplitl [HC]; · iexact HC
    iexact HwR'
  iintro ⟨HO, Hsr, Hsl, HA, HhR, HhL, HdR'⟩
  iapply Hk
  isplitl [HO]; · iexact HO
  isplitl [Hsr Hsl]; · isplitl [Hsr] <;> iassumption
  isplitl [HdR HdR']
  · isplitl [HdR]; · iexact HdR
    iexact HdR'
  isplitl [HdL]; · iexact HdL
  isplitl [HA]; · iexact HA
  iapply hp
  isplitl [HhL] <;> iassumption

/-! ## Finishing -/

/-- All cells are past their last rounds: their semaphores are zero. -/
theorem close_cells : iprop(recs m ρ K ∗ bigSep Finset.univ fun k : Cell => (atPos ER (kcell (c, k)) (span k) ∅ 0 : sProp 𝕄))
    ⊢ iprop(|={(Set.univ : Set ℕ)}=> bigSep Finset.univ fun k : Cell => (semVal (kcell (c, k)) 0 : sProp 𝕄)) := by
  refine BIBase.Entails.trans (bigSep_with_persistent fun k _ => ?_) (bigSep_fupd Finset.univ fun k : Cell => (semVal (kcell (c, k)) 0 : sProp 𝕄))
  have hi := inv_at m ρ K (c, k)
  have hc := Rounds.cell_close ER (talk m ρ) (κ := K (c, k)) (g := kcell (c, k)) (Es := Set.univ) (Set.mem_univ _) (fun h => h) (R := span k) (duties_after m ρ c k)
  iintro ⟨HR, H⟩
  iapply hc
  isplitl [HR]; · iapply hi; iexact HR
  iexact H

omit [FloatOps F] in
include m in
/-- The accumulator and the slots, all their pieces free, are whole again. -/
theorem scratch_join : iprop((bigSep Finset.univ (doneR (F := F) c)) ∗ (bigSep Finset.univ (doneL (F := F) c)) ∗ held fullShare (mAc c) c anyC)
    ⊢ iprop(scratch (F := F) c ∗ (bigSep Finset.univ fun s : Fin 16 => atPos ER (kcell (c, some (.r s))) 1 ∅ 0) ∗ bigSep Finset.univ fun s : Fin 15 => atPos ER (kcell (c, some (.l s))) 1 ∅ 0) := by
  unfold doneR doneL scratch
  simp only [bigSep_sep']
  have h0 := acc_join m c
  rw [chunks_in c] at h0
  iintro ⟨⟨HpR, HsR, HcR⟩, ⟨HpL, HsL, HcL⟩, HA⟩
  isplitl [HsR HcR HsL HcL HA]
  · isplitl [HcR HcL HA]
    · iapply h0
      isplitl [HcR]; · iexact HcR
      isplitl [HcL] <;> iassumption
    have h1 := slotsR_join m c
    have h2 := slotsL_join m c
    isplitl [HsR]
    · iapply h1; iexact HsR
    · iapply h2; iexact HsL
  isplitl [HpR] <;> iassumption

/-! ## The body -/

/-- From its inputs, buffers, tokens and credits, the body runs on a device to the whole result. -/
theorem body_run (Q : PUnit → sProp 𝕄) :
    iprop(recs m ρ K ∗ inputs m ρ c ∗ (∃ f : Buf (Elt F) _, ((c : Thread nD τ).loc cc0_stg5_0) ↦{fullShare} f) ∗ scratch (F := F) c ∗ owing c (owe₀ c)
        ∗ (bigSep Finset.univ fun k : Cell => atPos ER (kcell (c, k)) 0 ∅ 0) ∗ payToks (F := F) c ∗ creds (F := F) c)
      ⊢ iprop((inputs m ρ c ∗ (((c : Thread nD τ).loc cc0_stg5_0) ↦{fullShare} outAll m ρ) ∗ scratch (F := F) c ∗ owing c 0
          ∗ (bigSep Finset.univ fun k : Cell => semVal (kcell (c, k)) 0) -∗ Q ⟨⟩) -∗ wpT c (steps (F := F)) Q) := by
  have hb := barrier_run m ρ K c
  have hq := q_triple m ρ c
  have hg := groups_triple m ρ c
  have hr := ring_run m ρ K c
  have hw := rows_triple m ρ c
  have hG := gather_triple m ρ K c
  have hsR := slotsR_split (F := F) c
  have hsL := slotsL_split (F := F) c
  have hl := lend m ρ c
  have hj := rows_join m ρ c
  have hs := scratch_join m c
  have hcl := close_cells m ρ K c
  rw [cell_families] at hcl ⊢
  simp only [show span (some .sr) = 16 from rfl, show span (some .sl) = 15 from rfl, show ∀ s, span (some (.r s)) = 1 from fun _ => rfl,
    show ∀ s, span (some (.l s)) = 1 from fun _ => rfl, show ∀ e, span (some (.gs e)) = 1 from fun _ => rfl, show ∀ e, span (some (.gr e)) = 1 from fun _ => rfl,
    show ∀ b, span (some (.idle b)) = 0 from fun _ => rfl, show span none = 1 from rfl] at hcl
  have hlp : iprop((bigSep Finset.univ fun e : Fin 31 => lentRows m ρ c e) ∗ (bigSep Finset.univ fun e : Fin 31 => anyRows (F := F) (rot (1 + e.val) c) c)
      ∗ (bigSep Finset.univ fun e : Fin 31 => dutyTok ER (kcell (c, some (.gs e))) 0 false)
      ∗ bigSep Finset.univ fun e : Fin 31 => dutyTok ER (kcell (rot (1 + e.val) c, some (.gr (opp e)))) 0 false) ⊢ bigSep Finset.univ (sendPre m ρ c) := by
    unfold sendPre; simp only [bigSep_sep']; exact BI.Entails.refl _
  have hwR : iprop((bigSep Finset.univ fun s : Fin 16 => dutyTok ER (kcell (c, some .sr)) s.val false) ∗ (bigSep Finset.univ fun s : Fin 16 => dutyTok ER (kcell (rgt c, some (.r s))) 0 false)
      ∗ (bigSep Finset.univ fun s : Fin 16 => atPos ER (kcell (c, some (.r s))) 0 ∅ 0) ∗ (bigSep Finset.univ fun s : Fin 16 => cred (tallyAt (kcell (c, some (.r s))) () NA))
      ∗ bigSep Finset.univ fun s : Fin 16 => held (F := F) fullShare (mRs s) (rgt c) anyC) ⊢ bigSep Finset.univ (wayR (F := F) c) := by
    unfold wayR; simp only [bigSep_sep']; exact BI.Entails.refl _
  have hwL : iprop((bigSep Finset.univ fun s : Fin 15 => dutyTok ER (kcell (c, some .sl)) s.val false) ∗ (bigSep Finset.univ fun s : Fin 15 => dutyTok ER (kcell (lft c, some (.l s))) 0 false)
      ∗ (bigSep Finset.univ fun s : Fin 15 => atPos ER (kcell (c, some (.l s))) 0 ∅ 0) ∗ (bigSep Finset.univ fun s : Fin 15 => cred (tallyAt (kcell (c, some (.l s))) () NA))
      ∗ bigSep Finset.univ fun s : Fin 15 => held (F := F) fullShare (mLs s) (lft c) anyC) ⊢ bigSep Finset.univ (wayL (F := F) c) := by
    unfold wayL; simp only [bigSep_sep']; exact BI.Entails.refl _
  have hf : iprop((bigSep Finset.univ fun k : Dev nD => held fullShare (mAc k) c (Agree (locC m ρ c k))) ∗ bigSep Finset.univ fun k : Dev nD => anyRows c k)
      ⊢ bigSep Finset.univ (freshC m ρ c) := by
    unfold freshC; simp only [bigSep_sep']; exact BI.Entails.refl _
  have hd : steps (F := F) = (do
    let d0 : Dev nD ← Prog.lift .deviceId
    (do
      semSignalWord (leftOf d0) barSem 1#32
      semSignalWord (rightOf d0) barSem 1#32
      semWaitWord barSem 2#32
      afterBarrier d0 : TcProg F)) := rfl
  have hdev (p : Dev nD → TcProg F) (Q : PUnit → sProp 𝕄) : wpT c (do let d0 : Dev nD ← Prog.lift .deviceId; p d0) Q = wpT c (p c) Q := by
    show wp frame (wpE (defs₀ (F := F)) 𝒱₀ (c : Thread nD τ) none) Set.univ _ Q = _
    simp only [Prog.lift, Prog.bind_op, Prog.bind_ret, wp_deviceId]
  rw [hd, hdev]
  unfold scratch at hs
  unfold afterBarrier payToks creds inputs scratch
  simp only [wpT_bind]
  simp only [bigSep_sep'] at hG
  iintro ⟨#HR, ⟨Hx, Hwq, Hwo, Hk, Hv⟩, Hq, ⟨Ha, HsR, HsL⟩, HO, ⟨⟨⟨⟨Psr, Psl⟩, Pi⟩, ⟨Pr, Pl⟩, Pgs, Pgr⟩, Pb⟩, ⟨Tb, ⟨Tsr, Tr⟩, ⟨Tsl, Tl⟩, Tgs, Tgr⟩, Cb, Cr, Cl, Cg⟩ Hend
  -- the barrier
  ihave HsR := hsR $$ HsR
  ihave HsL := hsL $$ HsL
  iapply (hb _) $$ [HO Tb Cb Pb HsR HsL]
  · isplitr; · iexact HR
    isplitl [HO]; · iexact HO
    isplitl [Tb]; · iexact Tb
    isplitl [Cb]; · iexact Cb
    isplitl [Pb]; · iexact Pb
    isplitl [HsR] <;> iassumption
  iintro ⟨HO, Pb, HsR, HsL⟩
  -- the device's own attention
  iapply (hq _) $$ [Hx Hwq Hq]
  · isplitl [Hx]; · iexact Hx
    isplitl [Hwq] <;> iassumption
  iintro ⟨Hx, Hwq, Hq⟩
  iapply (hg _) $$ [Hk Hv Hq Ha]
  · unfold kv accQ
    isplitl [Hk Hv]; · isplitl [Hk] <;> iassumption
    isplitl [Hq]; · iexact Hq
    icases Ha with ⟨%f, Ha⟩
    iexists f
    isplitr; · ipureintro; exact fun _ _ h => h.elim
    iexact Ha
  unfold kv accQ
  iintro ⟨⟨Hk, Hv⟩, Hq, %f, %hf', Ha⟩
  -- the ring
  have has := acc_split m ρ c f hf'
  have hrs := rows_split (F := F) c (qAll m ρ c)
  ihave Ha := has $$ Ha
  ihave Hq := hrs $$ Hq
  iapply (hr _) $$ [HO Psr Psl Pr Pl Tsr Tr Tsl Tl Cr Cl HsR HsL Ha Hq]
  · isplitr; · iexact HR
    isplitl [HO]; · iexact HO
    isplitl [Psr Psl]; · isplitl [Psr] <;> iassumption
    isplitl [Tsr Tr Pr Cr HsR]
    · iapply hwR
      isplitl [Tsr]; · iexact Tsr
      isplitl [Tr]; · iexact Tr
      isplitl [Pr]; · iexact Pr
      isplitl [Cr] <;> iassumption
    isplitl [Tsl Tl Pl Cl HsL]
    · iapply hwL
      isplitl [Tsl]; · iexact Tsl
      isplitl [Tl]; · iexact Tl
      isplitl [Pl]; · iexact Pl
      isplitl [Cl] <;> iassumption
    iapply hf
    isplitl [Ha] <;> iassumption
  iintro ⟨HO, ⟨Psr, Psl⟩, HdR, HdL, Ha, Ho, Hp⟩
  -- the device's rows
  iapply (hw _) $$ [Ha Ho Hwo]
  · isplitl [Ha]; · iexact Ha
    isplitl [Ho] <;> iassumption
  iintro ⟨Ha, Ho, Hwo⟩
  -- the gathering
  ihave Ho := hl $$ Ho
  icases Ho with ⟨Hrest, Hlent⟩
  rw [← wpT_bind, ← wpT_bind]
  unfold wpT
  iapply wp_fupd
  iapply (hG _) $$ [HO Hlent Hp Tgs Tgr Cg Pgr Pgs]
  · isplitr; · iexact HR
    isplitl [HO]; · iexact HO
    isplitl [Hlent Hp Tgs Tgr]
    · iapply hlp
      isplitl [Hlent]; · iexact Hlent
      isplitl [Hp]; · iexact Hp
      isplitl [Tgs] <;> iassumption
    isplitl [Cg Pgr]; · isplitl [Cg] <;> iassumption
    iexact Pgs
  iintro ⟨HO, ⟨Pgr, Hd⟩, Pgs, Hlent⟩
  ihave Hs := hs $$ [HdR HdL Ha]
  · isplitl [HdR]; · iexact HdR
    isplitl [HdL] <;> iassumption
  icases Hs with ⟨Hs, Pr, Pl⟩
  imod hcl $$ [Psr Psl Pi Pr Pl Pgs Pgr Pb] with Hsem
  · isplitr; · iexact HR
    isplitr [Pb]
    · isplitl [Psr Psl Pi]
      · isplitl [Psr Psl]; · isplitl [Psr] <;> iassumption
        iexact Pi
      isplitl [Pr Pl]
      · isplitl [Pr] <;> iassumption
      · isplitl [Pgs] <;> iassumption
    iexact Pb
  imodintro
  iapply Hend
  isplitl [Hx Hwq Hwo Hk Hv]
  · isplitl [Hx]; · iexact Hx
    isplitl [Hwq]; · iexact Hwq
    isplitl [Hwo]; · iexact Hwo
    isplitl [Hk] <;> iassumption
  isplitl [Hrest Hlent Hd]
  · iapply hj
    isplitl [Hrest]; · iexact Hrest
    isplitl [Hlent] <;> iassumption
  isplitl [Hs]; · iexact Hs
  isplitl [HO]; · iexact HO
  iexact Hsem

end Attn

end
-- ==== Proof.Deal.lean ====
/- Dealing tokens, credits and cells to the devices at launch. -/
module

public import proofs.«01_k».proof.Proof.Body

@[expose] public section

noncomputable section

namespace Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Pipeline (chain)

variable {F : FTy → Type} [FloatOps F]
local notation "𝕄" => MT nD τ sig Unit (Elt F) ℕ UU ℕ
variable (m : (ℓ : Loc nD τ sig) → Buf (Elt F) ℓ) (ρ : Dev nD → PrngReg)

/-! ## The tokens -/

/-- The duties of a device's own cells: the barrier's, those of the ring to the right and to the left, those of the gathering. -/
abbrev Duty : Type := Bool ⊕ (Fin 16 ⊕ Fin 16) ⊕ (Fin 15 ⊕ Fin 15) ⊕ (Fin 31 ⊕ Fin 31)

/-- A duty's cell, round and name. -/
def dutyAt : Duty → Cell × ℕ × Bool
  | .inl b => (none, 0, b)
  | .inr (.inl (.inl s)) => (some .sr, s.val, false)
  | .inr (.inl (.inr s)) => (some (.r s), 0, false)
  | .inr (.inr (.inl (.inl s))) => (some .sl, s.val, false)
  | .inr (.inr (.inl (.inr s))) => (some (.l s), 0, false)
  | .inr (.inr (.inr (.inl e))) => (some (.gs e), 0, false)
  | .inr (.inr (.inr (.inr e))) => (some (.gr e), 0, false)

/-- Different duties are listed at different places. -/
theorem dutyAt_inj : Function.Injective dutyAt := by
  rintro (a | (a | a) | (a | a) | (a | a)) (b | (b | b) | (b | b) | (b | b)) h <;> simp only [dutyAt, Prod.mk.injEq, Option.some.injEq, Own.r.injEq, Own.l.injEq, Own.gs.injEq, Own.gr.injEq,
    reduceCtorEq, false_and, true_and, and_true, Fin.val_inj] at h <;> first | exact h.elim | rw [h]

/-- A duty's token on a device. -/
def tokOf (cx : Dev nD × Duty) : GSem nD τ sig × ℕ × Bool := (kcell (cx.1, (dutyAt cx.2).1), (dutyAt cx.2).2)

/-- Different duties have different tokens. -/
theorem tokOf_inj : Function.Injective tokOf := by
  rintro ⟨c, x⟩ ⟨c', x'⟩ h
  have h1 := kcell_inj (Prod.mk.inj h).1
  have h2 : (dutyAt x).2 = (dutyAt x').2 := (Prod.mk.inj h).2
  have h3 : (dutyAt x).1 = (dutyAt x').1 := congrArg Prod.snd h1
  have h4 : c = c' := congrArg Prod.fst h1
  rw [h4, dutyAt_inj (Prod.ext h3 h2)]

/-- All cells of the talk. -/
def ringCells : Finset (GSem nD τ sig) := Finset.univ.map ⟨kcell, kcell_inj⟩
/-- All tokens of the talk. -/
def ringToks : Finset (GSem nD τ sig × ℕ × Bool) := Finset.univ.map ⟨tokOf, tokOf_inj⟩

/-- The resources at launch: the pipeline's, and the talk's cells and tokens. -/
def u₀ : UU := (initOf (Pipeline.cells cfgs cellOf_inj) (Pipeline.launchToks cfgs cellOf_inj), initOf ringCells ringToks)

variable (F) in
/-- A token of a device's own cells. -/
abbrev tokAt (c : Dev nD) (k : Cell) (r : ℕ) (b : Bool) : sProp 𝕄 := dutyTok ER (kcell (c, k)) r b

variable (F) in
/-- The tokens of a device's own cells. -/
def ownToks (c : Dev nD) : sProp 𝕄 := bigSep Finset.univ fun x : Duty => tokAt F c (dutyAt x).1 (dutyAt x).2.1 (dutyAt x).2.2

omit [FloatOps F] in
/-- The tokens of a device's own cells, by kind of cell. -/
theorem ownToks_eq (c : Dev nD) : ownToks F c = iprop((tokAt F c none 0 true ∗ tokAt F c none 0 false)
    ∗ ((bigSep Finset.univ fun s : Fin 16 => tokAt F c (some .sr) s.val false) ∗ bigSep Finset.univ fun s : Fin 16 => tokAt F c (some (.r s)) 0 false)
    ∗ ((bigSep Finset.univ fun s : Fin 15 => tokAt F c (some .sl) s.val false) ∗ bigSep Finset.univ fun s : Fin 15 => tokAt F c (some (.l s)) 0 false)
    ∗ ((bigSep Finset.univ fun e : Fin 31 => tokAt F c (some (.gs e)) 0 false) ∗ bigSep Finset.univ fun e : Fin 31 => tokAt F c (some (.gr e)) 0 false)) := by
  have hb (Ψ : Bool → sProp 𝕄) : bigSep Finset.univ Ψ = iprop(Ψ true ∗ Ψ false) := by
    rw [bigSep_univ_eq_bigSepL [true, false] (by decide) (by decide), bigSepL_cons_cons, bigSepL_singleton]; rfl
  unfold ownToks
  rw [bigSep_univ_sum, bigSep_univ_sum, bigSep_univ_sum, bigSep_univ_sum, bigSep_univ_sum, bigSep_univ_sum, hb]
  rfl

omit [FloatOps F] in
/-- Two nested products over finite types may be swapped. -/
theorem swap_families {A B : Type} [Fintype A] [Fintype B] (Φ : A → B → sProp 𝕄) :
    (bigSep Finset.univ fun a : A => bigSep Finset.univ fun b : B => Φ a b) = bigSep Finset.univ fun b : B => bigSep Finset.univ fun a : A => Φ a b := by
  rw [← bigSep_univ_prod fun ab : A × B => Φ ab.1 ab.2, bigSep_univ_equiv (Equiv.prodComm B A), bigSep_univ_prod]; rfl

/-- The gathering copies by the numbers under which their receivers know the senders. -/
def oppE : Fin 31 ≃ Fin 31 where
  toFun := opp
  invFun := opp
  left_inv e := Fin.ext (by show 30 - (30 - e.val) = e.val; omega)
  right_inv e := Fin.ext (by show 30 - (30 - e.val) = e.val; omega)

omit [FloatOps F] in
/-- Every duty's token goes to the device that pays it. -/
theorem toks_around : (bigSep Finset.univ fun c : Dev nD => ownToks F c) = bigSep Finset.univ fun c : Dev nD => payToks (F := F) c := by
  have hr : (bigSep Finset.univ fun c : Dev nD => bigSep Finset.univ fun s : Fin 16 => tokAt F c (some (.r s)) 0 false)
      = bigSep Finset.univ fun c : Dev nD => bigSep Finset.univ fun s : Fin 16 => tokAt F (rgt c) (some (.r s)) 0 false :=
    bigSep_univ_equiv (ringBy 1) (fun c : Dev nD => bigSep Finset.univ fun s : Fin 16 => tokAt F c (some (.r s)) 0 false)
  have hl : (bigSep Finset.univ fun c : Dev nD => bigSep Finset.univ fun s : Fin 15 => tokAt F c (some (.l s)) 0 false)
      = bigSep Finset.univ fun c : Dev nD => bigSep Finset.univ fun s : Fin 15 => tokAt F (lft c) (some (.l s)) 0 false :=
    bigSep_univ_equiv (ringBy 31) (fun c : Dev nD => bigSep Finset.univ fun s : Fin 15 => tokAt F c (some (.l s)) 0 false)
  have hg : (bigSep Finset.univ fun c : Dev nD => bigSep Finset.univ fun e : Fin 31 => tokAt F c (some (.gr e)) 0 false)
      = bigSep Finset.univ fun c : Dev nD => bigSep Finset.univ fun e : Fin 31 => tokAt F (rot (1 + e.val) c) (some (.gr (opp e))) 0 false := by
    rw [swap_families, bigSep_univ_equiv oppE, swap_families fun (c : Dev nD) (e : Fin 31) => tokAt F (rot (1 + e.val) c) (some (.gr (opp e))) 0 false]
    exact bigSep_congr fun e _ => bigSep_univ_equiv (ringBy (1 + e.val)) (fun c : Dev nD => tokAt F c (some (.gr (opp e))) 0 false)
  have h0 : (bigSep Finset.univ fun c : Dev nD => tokAt F c none 0 true) = bigSep Finset.univ fun c : Dev nD => tokAt F (lft c) none 0 true :=
    bigSep_univ_equiv (ringBy 31) (fun c : Dev nD => tokAt F c none 0 true)
  have h1 : (bigSep Finset.univ fun c : Dev nD => tokAt F c none 0 false) = bigSep Finset.univ fun c : Dev nD => tokAt F (rgt c) none 0 false :=
    bigSep_univ_equiv (ringBy 1) (fun c : Dev nD => tokAt F c none 0 false)
  simp only [ownToks_eq]
  unfold payToks
  simp only [bigSep_sep']
  rw [hr, hl, hg, h0, h1]

/-! ## The credits -/

/-- What is owed to a cell. -/
def need : Cell → ℕ
  | none => 2
  | some (.r _) => NA
  | some (.l _) => NA
  | some (.gr _) => NO
  | some _ => 0

/-- Of all the devices, the one `n` places before a cell's owes to it. -/
theorem sum_cell (n : ℕ) (k' : Cell) (a : ℕ) (c : Dev nD) (k : Cell) :
    (∑ d : Dev nD, (tallyAt (kcell (rot n d, k')) () a : CellTallies nD τ sig Unit) (kcell (c, k)) ()) = if k' = k then a else 0 := by
  rw [← Equiv.sum_comp (ringBy (31 * n)), Finset.sum_eq_single c]
  · rw [tallyAt_apply]
    have hc : rot n (ringBy (31 * n) c) = c := by show rot n (rot (31 * n) c) = c; rw [rot_rot]; exact rot_zero _ c (by omega)
    rw [hc]
    by_cases h : k' = k
    · rw [if_pos h, if_pos ⟨by rw [h], rfl⟩]
    · rw [if_neg h, if_neg fun h' => h (congrArg Prod.snd (kcell_inj h'.1)).symm]
  · intro d _ hd
    rw [tallyAt_apply, if_neg]
    rintro ⟨h, -⟩
    have h1 : c = rot n (rot (31 * n) d) := congrArg Prod.fst (kcell_inj h)
    rw [rot_rot, rot_zero _ d (by omega)] at h1
    exact hd h1.symm
  · exact fun h => absurd (Finset.mem_univ c) h

/-- Summed over all devices, what they owe to the cells `k' i` of the device `n i` further on comes to `a` for every
`i` with `k' i = k`, at every device. -/
theorem sum_family {N : ℕ} (n : Fin N → ℕ) (k' : Fin N → Cell) (a : ℕ) (c : Dev nD) (k : Cell) :
    (∑ d : Dev nD, (∑ i : Fin N, (tallyAt (kcell (rot (n i) d, k' i)) () a : CellTallies nD τ sig Unit)) (kcell (c, k)) ()) = ∑ i : Fin N, if k' i = k then a else 0 := by
  simp only [Finset.sum_apply, Finsupp.finset_sum_apply]
  rw [Finset.sum_comm]
  exact Finset.sum_congr rfl fun i _ => sum_cell (n i) (k' i) a c k

/-- Summed over all devices, what is owed to a cell at the launch is what that cell needs. -/
theorem owed_all (c : Dev nD) (k : Cell) : (∑ d : Dev nD, owe₀ d (kcell (c, k)) ()) = need k := by
  have e (d : Dev nD) : owe₀ d = (∑ e : Fin 31, tallyAt (kcell (rot (1 + e.val) d, some (.gr (opp e)))) () NO) + (∑ s : Fin 16, tallyAt (kcell (rot 1 d, some (.r s))) () NA)
      + (∑ s : Fin 15, tallyAt (kcell (rot 31 d, some (.l s))) () NA) + tallyAt (kcell (rot 1 d, none)) () 1 + tallyAt (kcell (rot 31 d, none)) () 1 := by
    unfold owe₀ owe₁ oweRing oweG; rw [tail_all, tail_all, tail_all]
  simp only [e, Pi.add_apply, Finsupp.add_apply, Finset.sum_add_distrib]
  rw [sum_family, sum_family (fun _ : Fin 16 => 1), sum_family (fun _ : Fin 15 => 31), sum_cell, sum_cell]
  have ho (e e' : Fin 31) : opp e = e' ↔ e = opp e' := by rw [Fin.ext_iff, Fin.ext_iff]; show 30 - e.val = e'.val ↔ e.val = 30 - e'.val; omega
  rcases k with _ | o
  · simp [need]
  · cases o <;> simp [need, ho]

variable (F) in
omit [FloatOps F] in
/-- The launch's credits hold those the body uses. -/
theorem launch_creds (c : Dev nD) : (Pipeline.launchCred owe₀ c : sProp 𝕄) ⊢ creds (F := F) c := by
  have hk (k : Cell) : tallyOn (kcell (c, k)) (launchCredit (Pipeline.owing owe₀) 0 (kcell (c, k))) = (tallyAt (kcell (c, k)) () (need k) : CellTallies nD τ sig Unit) := by
    unfold tallyAt; refine congrArg _ (Finsupp.ext fun u => ?_); cases u
    rw [Pipeline.launchCredit_owing, Finsupp.single_eq_same, owed_all]
  unfold Pipeline.launchCred
  refine BIBase.Entails.trans (BI.bigSep_subset (t := Finset.univ.map ⟨csem, csem_inj⟩) (Finset.subset_univ _)) ?_
  rw [bigSep_map]
  refine BIBase.Entails.trans (Entails.of_eq (bigSep_congr fun k _ => congrArg (fun t => (cred t : sProp 𝕄)) (hk k))) ?_
  rw [cell_families]
  unfold creds
  iintro ⟨⟨-, ⟨Hr, Hl⟩, -, Hg⟩, Hb⟩
  isplitl [Hb]; · iexact Hb
  isplitl [Hr]; · iexact Hr
  isplitl [Hl]; · iexact Hl
  iexact Hg

/-! ## Opening the cells -/

/-- What the launch deals a device of the talk. -/
def dealt (c : Dev nD) : sProp 𝕄 :=
  iprop((bigSep Finset.univ fun k : Cell => roundState ER (talk m ρ) (kcell (c, k)) 0) ∗ (bigSep Finset.univ fun k : Cell => atPos ER (kcell (c, k)) 0 ∅ 0)
    ∗ (bigSep Finset.univ fun k : Cell => reached ER (kcell (c, k)) 0) ∗ ownToks F c)

/-- Names of invariants for all cells: what every device knows of them. -/
def known (K : Dev nD × Cell → ℕ) : sProp 𝕄 :=
  iprop((bigSep Finset.univ fun ck : Dev nD × Cell => cellInv ER (talk m ρ) (K ck) (kcell ck)) ∗ bigSep Finset.univ fun ck : Dev nD × Cell => reached ER (kcell ck) 0)
instance known_persistent (K : Dev nD × Cell → ℕ) : BI.Persistent (known m ρ K) := by unfold known; infer_instance

/-- What a device holds of the talk once all cells are open. -/
def joined (c : Dev nD) : sProp 𝕄 := iprop(∃ K, known m ρ K ∗ (bigSep Finset.univ fun k : Cell => atPos ER (kcell (c, k)) 0 ∅ 0) ∗ payToks (F := F) c)

/-- The launch's resource for the protocol gives every device what it is dealt. -/
theorem fund_talk : BI.own (ER (initOf ringCells ringToks)) ⊢ (|==> bigSep Finset.univ (dealt m ρ) : sProp 𝕄) := by
  have hX (Φ : GSem nD τ sig → sProp 𝕄) : bigSep ringCells Φ = bigSep Finset.univ fun c : Dev nD => bigSep Finset.univ fun k : Cell => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => ownToks F c := by
    unfold ringToks; rw [bigSep_map, bigSep_univ_prod]; rfl
  iintro HX
  imod (Rounds.fund ER (talk m ρ) ringCells ringToks) $$ HX with ⟨Hst, Hr, Hat, Htok⟩
  imodintro
  ihave Hst := (Entails.of_eq (hX fun g => roundState ER (talk m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt; simp only [bigSep_sep']
  isplitl [Hst]; · iexact Hst
  isplitl [Hat]; · iexact Hat
  isplitl [Hr] <;> iassumption

omit [FloatOps F] in
/-- The barrier's semaphore is the only one that outlives a call. -/
theorem unscopedSems0_bar (c : Dev nD) : (unscopedSems0 c : sProp 𝕄) = semVal (kcell (c, none)) 0 := by
  unfold unscopedSems0; rw [bigSep_eq_bigSepL_of_eq [SemLoc.reg barSem] (by decide +kernel) (by decide)]; rfl

omit [FloatOps F] in
/-- The semaphores of the talk: the kernel's own and the barrier's. -/
theorem sems_eq (c : Dev nD) : (bigSep Finset.univ fun k : Cell => (semVal (kcell (c, k)) 0 : sProp 𝕄))
    = iprop(Pipeline.ownSems0 (Ix := Unit) (Name := ℕ) (U := UU) (Lvl := ℕ) (Val := Elt F) (τ := τ) osem c ∗ unscopedSems0 c) := by
  rw [unscopedSems0_bar, cell_families]
  unfold Pipeline.ownSems0
  rw [own_families]

/-- Opening one device's cells. -/
theorem open_cells (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun k : Cell => iprop(∃ κ : ℕ, cellInv ER (talk m ρ) κ (kcell (c, k))))
          ∗ (bigSep Finset.univ fun k : Cell => atPos ER (kcell (c, k)) 0 ∅ 0) ∗ (bigSep Finset.univ fun k : Cell => reached ER (kcell (c, k)) 0) ∗ ownToks F c) := by
  have hinv : iprop((bigSep Finset.univ fun k : Cell => semVal (kcell (c, k)) 0) ∗ bigSep Finset.univ fun k : Cell => roundState ER (talk m ρ) (kcell (c, k)) 0)
      ⊢ (|={Set.univ}=> bigSep Finset.univ fun k : Cell => iprop(∃ κ : ℕ, cellInv ER (talk m ρ) κ (kcell (c, k))) : sProp 𝕄) := by
    rw [← bigSep_sep']
    exact (bigSep_mono fun k _ => (Rounds.body_intro ER (talk m ρ) (kcell (c, k))).trans inv_alloc).trans (bigSep_fupd _ _)
  rw [sems_eq] at hinv
  unfold dealt
  iintro ⟨Hos, Hus, Hst, Hat, Hr, Htok⟩
  imod hinv $$ [Hos Hus Hst] with Hinv
  · isplitl [Hos Hus]
    · isplitl [Hos] <;> iassumption
    iexact Hst
  imodintro
  isplitl [Hinv]; · iexact Hinv
  isplitl [Hat]; · iexact Hat
  isplitl [Hr] <;> iassumption

/-- Opened on all devices, the cells are known to all, and the tokens go to those who pay. -/
theorem open_all : (bigSep Finset.univ fun c : Dev nD => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ (joined m ρ) := by
  refine BIBase.Entails.trans ((bigSep_mono fun c _ => open_cells m ρ c).trans (bigSep_fupd _ _)) (BI.fupd_mono ?_)
  simp only [bigSep_sep']
  rw [toks_around, ← bigSep_univ_prod (fun ck : Dev nD × Cell => iprop(∃ κ : ℕ, cellInv ER (talk m ρ) κ (kcell ck))),
    ← bigSep_univ_prod (fun ck : Dev nD × Cell => (reached ER (kcell ck) 0 : sProp 𝕄))]
  iintro ⟨HI, Hat, #HR, Htok⟩
  ihave HK := (BI.bigSep_exists_pi Finset.univ (fun (ck : Dev nD × Cell) (κ : ℕ) => (cellInv ER (talk m ρ) κ (kcell ck) : sProp 𝕄))) $$ HI
  icases HK with ⟨%K, #HI⟩
  have h : iprop(known m ρ K ∗ bigSep Finset.univ fun c : Dev nD => iprop((bigSep Finset.univ fun k : Cell => atPos ER (kcell (c, k)) 0 ∅ 0) ∗ payToks (F := F) c))
      ⊢ bigSep Finset.univ (joined m ρ) := bigSep_with_persistent fun c _ => by
    unfold joined
    iintro H
    iexists K
    iexact H
  simp only [bigSep_sep'] at h
  iapply h
  isplitr
  · unfold known; isplitl; · iexact HI
    iexact HR
  isplitl [Hat] <;> iassumption

end Attn

end
-- ==== Proof.Launch.lean ====
/- The whole call on all devices, run once over any float values. -/
module

public import proofs.«01_k».proof.Proof.Deal
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs
public import Idealize.ShloMosaic.Lib.Pipeline.ValueKit.Geometry
public import Idealize.ShloMosaic.Lib.Tactic
public import proofs.«01_k».proof.Proof.Gen.KernelIdeal.Points

@[expose] public section

noncomputable section

namespace Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## What the call holds before and after the body -/

/-- What a device has at the start: what it holds of the talk, the levels, the credits of its cells. -/
def start (c : Dev nD) : sProp 𝕄 := iprop(joined m ρ c ∗ levs ∗ creds (F := F) c)
/-- Before the body. -/
def before₀ (c : Dev nD) : sProp 𝕄 := iprop(start m ρ c ∗ scratch (F := F) c)
variable (F) in
/-- After the body: the scratch buffers, every cell closed at zero. -/
def after₁ (c : Dev nD) : sProp 𝕄 := iprop(scratch (F := F) c ∗ bigSep Finset.univ fun k : Cell => semVal (kcell (c, k)) 0)

/-- The call's data: its arrays as launched, the inputs staged unchanged, the result staged whole. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m ρ c
    | ⟨1, _⟩ => wqIn m ρ c
    | ⟨2, _⟩ => woIn m ρ c
    | ⟨3, _⟩ => kIn m ρ c
    | ⟨4, _⟩ => vIn m ρ c
    | ⟨5, _⟩ => outAll m ρ
  Φ t := match t with
    | ⟨0, _⟩ => before₀ m ρ c
    | ⟨_ + 1, _⟩ => after₁ F c
  q _ := fullShare
  owed t := match t with
    | ⟨0, _⟩ => owe₀ c
    | ⟨_ + 1, _⟩ => 0

omit [FloatOps F] in
/-- Owning a staged buffer whole is having its points-to at the whole share. -/
theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's premise as the call states it. -/
def bodyPre (c : Dev nD) : sProp 𝕄 :=
  iprop(before₀ m ρ c ∗ (dats m ρ 0 c).owesAt () t0_0.castSucc
    ∗ (∃ d, stg c cc0_stg0_0 ((dats m ρ 0 c).before (0 : Fin 6) t0_0 d)) ∗ (∃ d, stg c cc0_stg1_0 ((dats m ρ 0 c).before (1 : Fin 6) t0_0 d))
    ∗ (∃ d, stg c cc0_stg2_0 ((dats m ρ 0 c).before (2 : Fin 6) t0_0 d)) ∗ (∃ d, stg c cc0_stg3_0 ((dats m ρ 0 c).before (3 : Fin 6) t0_0 d))
    ∗ (∃ d, stg c cc0_stg4_0 ((dats m ρ 0 c).before (4 : Fin 6) t0_0 d)) ∗ (∃ d, stg c cc0_stg5_0 ((dats m ρ 0 c).before (5 : Fin 6) t0_0 d)))

/-- The body's conclusion as the call states it. -/
def bodyPost (c : Dev nD) : sProp 𝕄 :=
  iprop(after₁ F c ∗ (dats m ρ 0 c).owesAt () t0_0.succ ∗ stg c cc0_stg0_0 (xIn m ρ c) ∗ stg c cc0_stg1_0 (wqIn m ρ c) ∗ stg c cc0_stg2_0 (woIn m ρ c)
    ∗ stg c cc0_stg3_0 (kIn m ρ c) ∗ stg c cc0_stg4_0 (vIn m ρ c) ∗ stg c cc0_stg5_0 (outAll m ρ))

/-- The body, from its precondition, reaches its postcondition. -/
theorem body_meets (c : Dev nD) : bodyPre m ρ c ⊢ wpT c (steps (F := F)) (fun _ => bodyPost m ρ c) := by
  have b0 (d) : (dats m ρ 0 c).before (0 : Fin 6) t0_0 d = xIn m ρ c := by unfold Dat.before; rw [if_pos (by rfl)]; rfl
  have b1 (d) : (dats m ρ 0 c).before (1 : Fin 6) t0_0 d = wqIn m ρ c := by unfold Dat.before; rw [if_pos (by rfl)]; rfl
  have b2 (d) : (dats m ρ 0 c).before (2 : Fin 6) t0_0 d = woIn m ρ c := by unfold Dat.before; rw [if_pos (by rfl)]; rfl
  have b3 (d) : (dats m ρ 0 c).before (3 : Fin 6) t0_0 d = kIn m ρ c := by unfold Dat.before; rw [if_pos (by rfl)]; rfl
  have b4 (d) : (dats m ρ 0 c).before (4 : Fin 6) t0_0 d = vIn m ρ c := by unfold Dat.before; rw [if_pos (by rfl)]; rfl
  have hrun (K) := body_run m ρ K c (fun _ => bodyPost m ρ c)
  unfold bodyPre
  simp only [b0, b1, b2, b3, b4]
  unfold before₀ start joined Dat.owesAt Pipeline.owesWithin
  iintro ⟨⟨⟨⟨%K, Hkn, Hat, Htok⟩, Hlev, Hcr⟩, Hscr⟩, ⟨%W, %hW, HO⟩, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩⟩
  subst h0; subst h1; subst h2; subst h3; subst h4
  iapply (hrun K) $$ [Hkn Hat Htok Hlev Hcr Hscr HO H0 H1 H2 H3 H4 H5]
  · isplitl [Hkn Hlev]
    · unfold known recs; icases Hkn with ⟨HI, HR⟩
      isplitl [HI]; · iexact HI
      isplitl [HR] <;> iassumption
    isplitl [H0 H1 H2 H3 H4]
    · unfold inputs
      isplitl [H0]; · iexact H0
      isplitl [H1]; · iexact H1
      isplitl [H2]; · iexact H2
      isplitl [H3] <;> iassumption
    isplitl [H5]; · iexists f5; iexact H5
    isplitl [Hscr]; · iexact Hscr
    isplitl [HO]; · unfold owing; iexists W; iexact HO
    isplitl [Hat]; · iexact Hat
    isplitl [Htok] <;> iassumption
  iintro ⟨Hin, Hout, Hscr, HO, Hz⟩
  unfold bodyPost after₁ inputs owing Dat.owesAt Pipeline.owesWithin
  icases HO with ⟨%W', HO⟩
  icases Hin with ⟨H0, H1, H2, H3, H4⟩
  isplitl [Hscr Hz]
  · isplitl [Hscr] <;> iassumption
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact Hout

omit [FloatOps F] in
/-- A product over the six windows, written out. -/
theorem windows_eq (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

set_option maxRecDepth 40000 in
/-- The body meets the call's obligation on every device. -/
theorem body_obligation (c : Dev nD) : BodyObligation (dats (F := F) m ρ 0 c) (defs₀ (F := F)) 𝒱₀ () Set.univ := fun t => by
  rw [fin_N0 t]
  rw [windows_eq, windows_eq]
  simp only [owns_stage]
  show bodyPre m ρ c ⊢ wp frame (wpE (defs₀ (F := F)) 𝒱₀ (c : Thread nD τ) none) Set.univ
    (cc0_body (F := F) mX (Memref.isWhole_whole _) mWq (Memref.isWhole_whole _) mWo (Memref.isWhole_whole _) mK (Memref.isWhole_whole _) mV (Memref.isWhole_whole _) mO (Memref.isWhole_whole _)
      mA (Memref.isWhole_whole _) mR (Memref.isWhole_whole _) mL (Memref.isWhole_whole _) cc0_scratch3 cc0_scratch4 cc0_scratch5 cc0_scratch6 cc0_scratch7 cc0_scratch8) (fun _ => bodyPost m ρ c)
  rw [body_eq]
  exact body_meets m ρ c

/-! ## The launch -/

/-- The kernel's own semaphores are scoped, distinct, and none of them is a staging semaphore. -/
theorem ownSemFacts : Pipeline.OwnSemFacts cfg0.spec osem := by decide +kernel

/-- Every window is held at the whole share. -/
theorem share_eq (c : Dev nD) (w : Fin cfg0.W) : (dats m ρ 0 c).share w = fullShare := by unfold Dat.share; split <;> rfl

/-- What the launch gives a device is what its pipeline starts from. -/
theorem start_intro (c : Dev nD) :
    iprop(Pipeline.unscopedRestP Pipeline.Prefetch.none cfg0.spec c (fun b => m ((c : Thread nD τ).loc b)) ∗ levAts L lv
        ∗ Pipeline.launchCred owe₀ c ∗ prngReg c (ρ c) ∗ joined m ρ c)
      ⊢ |={Set.univ}=> iprop(start m ρ c ∗ emp) := by
  iintro ⟨-, Hlev, Hcr, -, HG⟩
  ihave Hc := (launch_creds F c) $$ Hcr
  imodintro
  unfold start
  isplitl
  · isplitl [HG]; · iexact HG
    isplitl [Hlev]; · unfold levs; iexact Hlev
    iexact Hc
  · iempintro

/-- What the pipeline starts from, with the scratch buffers, is the invariant before the one step. -/
theorem before_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before₀ m ρ c from rfl, scopedRest0_eq]
  unfold before₀ scratch
  iintro ⟨Hs, -, Hr⟩
  isplitl [Hs]; · iexact Hs
  iexact Hr

/-- The invariant after the step gives back the semaphores at zero and the scratch buffers. -/
theorem after_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after₁ F c from rfl, scopedRest0_eq]
  unfold after₁ scratch
  rw [sems_eq]
  iintro ⟨Hr, Hos, Hus⟩
  isplitl [Hus]; · iexact Hus
  isplitl [Hos]; · iexact Hos
  iexact Hr

/-- The staging semaphores are below all that is owed. -/
theorem stage_low (c : Dev nD) (w : Fin cfg0.W) (s : Fin (cfg0.win w).nbuf) : lv ((c : Thread nD τ), SemLoc.dma ((cfg0.win w).sem s)) () ≤ 0 := by
  have h (w : Fin cfg0.W) (s : Fin (cfg0.win w).nbuf) : (decode (SemLoc.dma ((cfg0.win w).sem s))).elim 0 lvC ≤ 0 := by
    fin_cases w <;> fin_cases s <;> decide +kernel
  exact h w s

/-- The launch's waits are allowed by the levels. -/
theorem waits (c : Dev nD) : (levAts L lv : sProp 𝕄) ⊢ Pipeline.cellsWaits cfgs (dats m ρ) () 0 c :=
  Pipeline.cellsWaits_intro cfgs (dats m ρ) () 0 c fun w s t =>
    mayWait_above c _ 0 _ (stage_low c w s) (by
      rcases t with ⟨_ | _, ht⟩
      · exact above_launch c
      · exact Above.zero _)

/-! ## The run -/

/-- What the run leaves in a window's array. -/
def finalA (c : Dev nD) (w : Fin cfg0.W) : Buf (Elt F) ((cfg0.win w).arr.view.loc (c : Thread nD τ)) := (dats m ρ 0 c).arrAt w cfg0.N

/-- Every window's array on every device is as the call leaves it. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 40000 in
/-- From any memory with zero counters, every fair execution of the program on the 32 devices ends, with every device's
    arrays as the call leaves them and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owe₀) (howed₀ := fun _ => rfl) (howedN := fun _ => rfl)
    (L := L) (lv := lv) (hL := L_of_ne) (hwaits := waits m ρ)
    (G := dealt m ρ) (G' := joined m ρ) (u₀ := u₀)
    (hu₀ := by
      unfold u₀
      iintro Hu
      ihave H := (ownU_pair _ _) $$ Hu
      icases H with ⟨HP, HX⟩
      imod (fund_talk m ρ) $$ HX with HG
      imodintro
      isplitl [HP] <;> iassumption)
    (hglob := open_all m ρ)
    (hA := fun _ _ => rfl) (hpf := fun _ k => k.elim0)
    (X := start m ρ) (Y := fun c => unscopedSems0 c) (Z := fun _ => iprop(emp))
    (hX := start_intro m ρ) (hin := before_intro m ρ) (hout := after_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array is as launched. -/
theorem final_input (c : Dev nD) (w : Fin cfg0.W) (hw : (cfg0.win w).isOut = false) : finalA m ρ c w = (s₀ m ρ).mem ((cfg0.win w).arr.view.loc (c : Thread nD τ)) :=
  (dats (F := F) m ρ 0 c).arrAt_in w hw _

/-- The result's array ends as the whole result. -/
theorem final_out (c : Dev nD) : finalA m ρ c (5 : Fin 6) = outAll m ρ :=
  Pipeline.Dat.arrAt_eq_of_after_last (dat := dats m ρ 0 c) (5 : Fin 6) t0_0 (by decide +kernel) (outAll m ρ) (fun _ => rfl)

/-- The run, array by array: the result whole on every device, the arguments as launched, every counter at zero. -/
theorem run_arrays : θ_run defs (onTc (τ := τ) (main (F := F))) (s₀ m ρ) (fun r => (∀ c : Dev nD,
      r.2.mem ((c : Thread nD τ).loc main_v1) = outAll m ρ
      ∧ r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun r h => ⟨fun c => ⟨(h.1 c (5 : Fin 6)).trans (final_out m ρ c), (h.1 c (0 : Fin 6)).trans (final_input m ρ c (0 : Fin 6) rfl),
    (h.1 c (1 : Fin 6)).trans (final_input m ρ c (1 : Fin 6) rfl), (h.1 c (3 : Fin 6)).trans (final_input m ρ c (3 : Fin 6) rfl),
    (h.1 c (4 : Fin 6)).trans (final_input m ρ c (4 : Fin 6) rfl), (h.1 c (2 : Fin 6)).trans (final_input m ρ c (2 : Fin 6) rfl)⟩, h.2⟩) (run_main m ρ)

end Attn

end
-- ==== Proof.Softmax.lean ====
/-
  The algebra of one row of attention over the extended reals: with finite scores, subtracting the row's
  maximum before the exponential and dividing once at the end gives what the plain exponentials give when their
  sum is inverted. The values may be infinite; only the scores are finite. -/
module

public import Idealize.ShloMosaic.PureOps.Ideal
public import Idealize.ShloMosaic.PureOps.Ideal.Laws
public import Idealize.ShloMosaic.Lib.ValueIdxCore

@[expose] public section

noncomputable section

namespace Attn

open Idealize.ShloMosaic
open Idealize.ShloMosaic.ValueIdx

/-- An extended real is FINITE when it is a real number. -/
def IsReal (x : EReal) : Prop := ∃ r : ℝ, x = (r : EReal)

/-- A real number is finite. -/
theorem real_coe (r : ℝ) : IsReal (r : EReal) := ⟨r, rfl⟩

/-- Finite numbers have a finite product. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- Finitely many finite numbers have a finite sum. -/
theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih =>
      obtain ⟨x, hx⟩ := h a
      obtain ⟨y, hy⟩ := ih
      exact ⟨x + y, by rw [Finset.sum_insert ha, hx, hy, EReal.coe_add]⟩

/-- The greatest of finitely many finite numbers, at least one, is finite. -/
theorem IsReal.fold_max {ι : Type} (s : Finset ι) (f : ι → EReal) (h : ∀ i, IsReal (f i)) (hs : s.Nonempty) :
    IsReal (s.fold max ⊥ f) := by
  classical
  induction s using Finset.induction_on with
  | empty => exact absurd rfl hs.ne_empty
  | insert a s ha ih =>
      rw [Finset.fold_insert ha]
      rcases s.eq_empty_or_nonempty with rfl | hn
      · rw [Finset.fold_empty, max_eq_left bot_le]
        exact h a
      · rcases max_choice (f a) (s.fold max ⊥ f) with e | e <;> rw [e]
        · exact h a
        · exact ih hn

/-- A non-negative real factor comes out of a sum of extended reals. -/
theorem sum_mul_nonneg {ι : Type} (s : Finset ι) (f : ι → EReal) (c : ℝ) (hc : 0 ≤ c) :
    ∑ i ∈ s, f i * (c : EReal) = (∑ i ∈ s, f i) * (c : EReal) := by
  classical
  induction s using Finset.induction_on with
  | empty => simp
  | insert a s ha ih =>
      rw [Finset.sum_insert ha, Finset.sum_insert ha, ih,
        EReal.right_distrib_of_nonneg_of_ne_top (by exact_mod_cast hc) (EReal.coe_ne_top c)]

/-- The sum of reals, read in the extended reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Subtracting a finite `M` from a finite score multiplies its exponential by `exp (-M)`. -/
theorem exp_sub (s M : ℝ) : Ideal.exp ((s : EReal) - (M : EReal)) = Ideal.exp (s : EReal) * ((Real.exp (-M) : ℝ) : EReal) := by
  rw [← EReal.coe_sub, Ideal.exp_coe, Ideal.exp_coe, ← EReal.coe_mul, ← Real.exp_add, sub_eq_add_neg]

/-- One row: the weighted mean of the values with exponentials of shifted scores, divided by their sum, is the
    weighted sum with plain exponentials times the inverse of the plain exponentials' sum. -/
theorem row_eq {ι : Type} [Fintype ι] [Nonempty ι] (s v : ι → EReal) (hs : ∀ j, IsReal (s j)) (M : EReal) (hM : IsReal M) :
    Ideal.div (∑ j, v j * Ideal.exp (s j - M)) (∑ j, Ideal.exp (s j - M))
      = (∑ j, Ideal.exp (s j) * v j) * Ideal.div 1 (∑ j, Ideal.exp (s j)) := by
  obtain ⟨M, rfl⟩ := hM
  choose r hr using hs
  obtain rfl : s = fun j => (r j : EReal) := funext hr
  have hc : 0 < Real.exp (-M) := Real.exp_pos _
  have hL : 0 < ∑ j, Real.exp (r j) := Finset.sum_pos (fun j _ => Real.exp_pos _) Finset.univ_nonempty
  have e1 : ∑ j, v j * Ideal.exp ((r j : EReal) - (M : EReal))
      = (∑ j, Ideal.exp (r j : EReal) * v j) * ((Real.exp (-M) : ℝ) : EReal) := by
    rw [← sum_mul_nonneg _ _ _ hc.le]
    refine Finset.sum_congr rfl fun j _ => ?_
    rw [exp_sub, ← mul_assoc, mul_comm (v j)]
  have e2 : ∑ j, Ideal.exp ((r j : EReal) - (M : EReal)) = (((∑ j, Real.exp (r j)) * Real.exp (-M) : ℝ) : EReal) := by
    rw [EReal.coe_mul, ← sum_coe, ← sum_mul_nonneg _ _ _ hc.le]
    exact Finset.sum_congr rfl fun j _ => exp_sub _ _
  have e3 : ∑ j, Ideal.exp (r j : EReal) = ((∑ j, Real.exp (r j) : ℝ) : EReal) := sum_coe _ _
  rw [e1, e2, e3, Ideal.div_coe (mul_pos hL hc).ne', Ideal.div_coe hL.ne', mul_assoc, one_mul, ← EReal.coe_mul]
  congr 2
  field_simp

/-! ## The attention, entry by entry -/

/-- The scores' scale, as the f32 word of both programs. -/
def scale : EReal := Ideal.ofBits .f32 0x3DB504F3#32

/-- The scale is a finite number. -/
theorem scale_real : IsReal scale := by
  unfold scale
  simp only [Ideal.ofBits, Ideal.ieee]
  rw [if_neg (by decide), if_neg (by decide)]
  exact real_coe _

/-- Lane `d` of head `h`, as a column of the 1024. -/
abbrev lane (h : Fin 8) (d : Fin 128) : Fin 1024 := ⟨h.val * 128 + d.val, by omega⟩
/-- Row `i` of batch `b`, as a row of the 1024. -/
abbrev row (b : Fin 4) (i : Fin 256) : Fin 1024 := ⟨b.val * 256 + i.val, by omega⟩

/-- A query's entry. -/
def query (x : (⟨3, ![4, 256, 1024]⟩ : Shape).Idx → EReal) (wq : (⟨2, ![1024, 1024]⟩ : Shape).Idx → EReal)
    (b : Fin 4) (i : Fin 256) (h : Fin 8) (d : Fin 128) : EReal :=
  ∑ k : Fin 1024, x (ix3 b i k) * wq (ix2 k (lane h d))

/-- The score of a query against a key. -/
def score (x : (⟨3, ![4, 256, 1024]⟩ : Shape).Idx → EReal) (wq : (⟨2, ![1024, 1024]⟩ : Shape).Idx → EReal)
    (b : Fin 4) (i : Fin 256) (h : Fin 8) (key : Fin 128 → EReal) : EReal :=
  (∑ d : Fin 128, query x wq b i h d * key d) * scale

/-- With finite inputs and a finite key the score is finite. -/
theorem score_real {x : (⟨3, ![4, 256, 1024]⟩ : Shape).Idx → EReal} {wq : (⟨2, ![1024, 1024]⟩ : Shape).Idx → EReal}
    (hx : ∀ i, IsReal (x i)) (hw : ∀ i, IsReal (wq i)) (b : Fin 4) (i : Fin 256) (h : Fin 8) {key : Fin 128 → EReal}
    (hk : ∀ d, IsReal (key d)) : IsReal (score x wq b i h key) :=
  (IsReal.sum _ _ fun d => (IsReal.sum _ _ fun k => (hx _).mul (hw _)).mul (hk d)).mul scale_real

/-- The attention projected back: entry `(row b i, j)` of the result, the keys and values given by number. -/
def attention {ι : Type} [Fintype ι] (x : (⟨3, ![4, 256, 1024]⟩ : Shape).Idx → EReal) (wq wo : (⟨2, ![1024, 1024]⟩ : Shape).Idx → EReal)
    (key val : Fin 4 → Fin 2 → ι → Fin 128 → EReal) (b : Fin 4) (i : Fin 256) (j : Fin 1024) : EReal :=
  ∑ k : Fin 1024,
    ((∑ t : ι, Ideal.exp (score x wq b i ⟨k.val / 128, by omega⟩ (key b ⟨k.val / 512, by omega⟩ t)) * val b ⟨k.val / 512, by omega⟩ t ⟨k.val % 128, by omega⟩)
      * Ideal.div 1 (∑ t : ι, Ideal.exp (score x wq b i ⟨k.val / 128, by omega⟩ (key b ⟨k.val / 512, by omega⟩ t))))
    * wo (ix2 k j)

end Attn
end
end
-- ==== Proof.KernelValue.lean ====
/-
  The kernel's arithmetic over the extended reals, entry by entry: the queries, the exponentials of the scores, the sums
  over a device's keys, and the rows it makes of the sums. There a rounding to a shorter format changes nothing. -/
module

public import proofs.«01_k».proof.Proof.Contents
public import proofs.«01_k».proof.Proof.Softmax
public import Idealize.ShloMosaic.Lib.Pointwise

@[expose] public section

noncomputable section

namespace Attn

open Cert.KernelIdeal Cert.KernelIdeal.Gen
open Idealize.ShloMosaic

/-- An entry of the projection of the inputs to queries. -/
theorem pay1_at (x : Vec Ideal S4x256x1024 .f32) (w : Vec Ideal S1024x1024 .f32) (r j : Fin 1024) :
    k0_pay1 (F := Ideal) x w (ValueIdx.ix2 r j)
      = ∑ k : Fin 1024, x (ValueIdx.ix3 ⟨r.val / 256, by omega⟩ ⟨r.val % 256, by omega⟩ k) * w (ValueIdx.ix2 k j) := by
  simp only [← ix2_eq_valueIdx, ← ix3_eq_valueIdx]
  pointwise [k0_pay1]

/-- An entry of a group's keys. -/
theorem pay2_at (k : Vec Ideal S1x1024x1x128 .f32) (t : Fin 1024) (d : Fin 128) :
    k0_pay2 (F := Ideal) k (ValueIdx.ix2 t d) = k (ValueIdx.ix4 0 t 0 d) := by
  simp only [← ix2_eq_valueIdx, ← ix4_eq_valueIdx]
  pointwise [k0_pay2]

/-- An entry of a group's values. -/
theorem pay3_at (k : Vec Ideal S1x1024x1x128 .f32) (t : Fin 1024) (d : Fin 128) :
    k0_pay3 (F := Ideal) k (ValueIdx.ix2 t d) = k (ValueIdx.ix4 0 t 0 d) := by
  simp only [← ix2_eq_valueIdx, ← ix4_eq_valueIdx]
  pointwise [k0_pay3]

/-- The exponential of a query's score against a key. -/
theorem pay11_at (k : FVec Ideal S1024x128 .bf16) (q : Vec Ideal S256x128 .f32) (i : Fin 256) (t : Fin 1024) :
    k0_pay11 (F := Ideal) k q (ValueIdx.ix2 i t)
      = Ideal.exp ((∑ d : Fin 128, q (ValueIdx.ix2 i d) * k (ValueIdx.ix2 t d)) * scale) := by
  simp only [← ix2_eq_valueIdx]
  unfold scale
  pointwise [k0_pay11]

/-- A denominator: the sum of a query's exponentials over the keys. -/
theorem pay13_at (k : FVec Ideal S1024x128 .bf16) (q : Vec Ideal S256x128 .f32) (i : Fin 256) :
    k0_pay13 (F := Ideal) k q (ValueIdx.ix2 i 0) = ∑ t : Fin 1024, k0_pay11 (F := Ideal) k q (ValueIdx.ix2 i t) := by
  simp only [← ix2_eq_valueIdx]
  pointwise [k0_pay13]

/-- A numerator: the sum of the values weighted with a query's exponentials. -/
theorem pay12_at (k v : FVec Ideal S1024x128 .bf16) (q : Vec Ideal S256x128 .f32) (i : Fin 256) (d : Fin 128) :
    k0_pay12 (F := Ideal) k v q (ValueIdx.ix2 i d)
      = ∑ t : Fin 1024, k0_pay11 (F := Ideal) k q (ValueIdx.ix2 i t) * v (ValueIdx.ix2 t d) := by
  simp only [← ix2_eq_valueIdx]
  pointwise [k0_pay12]

/-- An entry of a device's rows: the numerators, each divided by its head's denominator, projected back. -/
theorem rowsVal_at (l : Vec Ideal S32x8 .f32) (o : Vec Ideal S32x1024 .f32) (w : Vec Ideal S1024x1024 .f32) (i : Fin 32) (j : Fin 1024) :
    rowsVal (F := Ideal) l o w (ValueIdx.ix2 i j)
      = ∑ k : Fin 1024, (o (ValueIdx.ix2 i k) * Ideal.div 1 (l (ValueIdx.ix2 i ⟨k.val / 128, by omega⟩))) * w (ValueIdx.ix2 k j) := by
  simp only [← ix2_eq_valueIdx]
  pointwise [rowsVal, k0_pay176, k0_pay169, k0_pay170, k0_pay171, k0_pay172, k0_pay173, k0_pay174, k0_pay175]
  refine Finset.sum_congr rfl fun x _ => congrArg (· * _) ?_
  have key : ∀ (y : Fin 1024) (n : Fin 8), y = x → n.val = x.val / 128 →
      o (ix2 i y) * Ideal.div 1 (l (ix2 i n)) = o (ix2 i x) * Ideal.div 1 (l (ix2 i ⟨x.val / 128, by omega⟩)) := by
    intro y n hy hn
    rw [hy, (Fin.ext hn : n = ⟨x.val / 128, by omega⟩)]
  have hx := x.isLt
  split_ifs <;> exact key _ _ (Fin.ext (by first | rfl | (simp only []; omega))) (by first | omega | (simp; omega) | (simp; done))

end Attn
end
-- ==== Proof.RingValue.lean ====
/-
  What the ring adds up: a chunk that has been all the way round holds the sum of all devices' shares of it. -/
module

public import proofs.«01_k».proof.Proof.Contents
public import proofs.«01_k».proof.Proof.Softmax
public import Mathlib.Algebra.BigOperators.Intervals

@[expose] public section

noncomputable section

namespace Attn

open Cert.KernelIdeal Cert.KernelIdeal.Gen
open Idealize.ShloMosaic

variable (m : (ℓ : Loc nD τ sig) → Buf (Elt Ideal) ℓ) (ρ : Dev nD → PrngReg)

/-- The entrywise sum of two chunks over the extended reals. -/
theorem addC_at (a b : Chunk Ideal) (p : S32x1152.Idx) : addC a b p = a p + b p := rfl

/-- What travels to the right is the sum over the devices it has left behind. -/
theorem sentRv_sum (k : Dev nD) (p : S32x1152.Idx) : ∀ (s : ℕ) (c : Dev nD), s ≤ 15 → chunkR c s = k →
    sentRv m ρ s c p = ∑ n ∈ Finset.range (s + 1), locC m ρ (rot (31 * n) c) k p
  | 0, c, _, h => by
    rw [Finset.sum_range_one, Nat.mul_zero, rot_zero 0 c rfl, ← h]; rfl
  | s + 1, c, hs, h => by
    rw [Finset.sum_range_succ', Nat.mul_zero, rot_zero 0 c rfl, add_comm (Finset.sum _ _)]
    show addC _ _ p = _
    rw [addC_at, h, sentRv_sum k p s (lft c) (by omega) ((chunkR_lft c s (by omega)).trans h)]
    refine congrArg (locC m ρ c k p + ·) (Finset.sum_congr rfl fun n _ => ?_)
    rw [rot_rot, rot_mod (31 * n + 31) (31 * (n + 1)) c (by omega)]

/-- What travels to the left likewise. -/
theorem sentLv_sum (k : Dev nD) (p : S32x1152.Idx) : ∀ (s : ℕ) (c : Dev nD), chunkL c s = k →
    sentLv m ρ s c p = ∑ n ∈ Finset.range (s + 1), locC m ρ (rot n c) k p
  | 0, c, h => by
    rw [Finset.sum_range_one, rot_zero 0 c rfl, ← h]; rfl
  | s + 1, c, h => by
    rw [Finset.sum_range_succ', rot_zero 0 c rfl, add_comm (Finset.sum _ _)]
    show addC _ _ p = _
    rw [addC_at, h, sentLv_sum k p s (rgt c) ((chunkL_rgt c s).trans h)]
    refine congrArg (locC m ρ c k p + ·) (Finset.sum_congr rfl fun n _ => ?_)
    rw [rot_rot]

/-- A sum over the places on the ring, from device `c` on, is a sum over the devices. -/
theorem sum_ring (f : Dev nD → EReal) (c : Dev nD) : ∑ n ∈ Finset.range 32, f (rot n c) = ∑ d : Dev nD, f d := by
  rw [Finset.sum_range fun n => f (rot n c)]
  refine Fintype.sum_bijective (fun n : Fin 32 => rot n.val c) ((Fintype.bijective_iff_injective_and_card _).mpr ⟨?_, by decide⟩) _ _ fun _ => rfl
  intro a b h
  have h' := congrArg Fin.val h
  simp only [rot_val] at h'
  exact Fin.ext (by omega)

/-- The devices from one on, in two halves: those after it, nearest first, and those before it, nearest first. -/
theorem sum_halves (f : ℕ → EReal) :
    ∑ n ∈ Finset.range 16, f n + ∑ n ∈ Finset.range 16, f (31 - n) = ∑ n ∈ Finset.range 32, f n := by
  have e := Finset.sum_range_reflect (fun n => f (16 + n)) 16
  rw [show (32 : ℕ) = 16 + 16 from rfl, Finset.sum_range_add, ← e]
  refine congrArg (_ + ·) (Finset.sum_congr rfl fun n hn => congrArg f ?_)
  have := Finset.mem_range.mp hn
  omega

/-- The chunk a device keeps is the sum of all devices' shares of it. -/
theorem sumC_at (c : Dev nD) (p : S32x1152.Idx) : sumC m ρ c p = ∑ d : Dev nD, locC m ρ d c p := by
  have hL := sentLv_sum m ρ c p 15 c (rot_zero _ c (by decide))
  have hR := sentRv_sum m ρ c p 15 (lft c) le_rfl ((chunkR_lft c 15 (by decide)).trans (rot_zero _ c (by decide)))
  have hS := (sum_halves fun n => locC m ρ (rot n c) c p).trans (sum_ring (fun d => locC m ρ d c p) c)
  refine (congrArg₂ (· + ·) hL (hR.trans ?_)).trans hS
  refine Finset.sum_congr rfl fun n hn => ?_
  have := Finset.mem_range.mp hn
  rw [rot_rot, rot_mod (31 * n + 31) (31 - n) c (by omega)]

end Attn
end
-- ==== Proof.OutValue.lean ====
/-
  What the kernel leaves, entry by entry over the extended reals, as a formula of the arrays it was given. -/
module

public import proofs.«01_k».proof.Proof.KernelValue
public import proofs.«01_k».proof.Proof.RingValue
public import Idealize.ShloMosaic.Lib.Pipeline.ValueKit

@[expose] public section

noncomputable section

namespace Attn

open Cert.KernelIdeal Cert.KernelIdeal.Gen
open Idealize.ShloMosaic
open Idealize.ShloMosaic.TcCoe

section AnyFloats

variable {F : FTy → Type} [FloatOps F] (m : (ℓ : Loc nD τ sig) → Buf (Elt F) ℓ) (ρ : Dev nD → PrngReg)

/-! ## The staged inputs are the arrays -/

/-- The staged x is the argument. -/
theorem xIn_eq (c : Dev nD) : xIn m ρ c = m ((c : Thread nD τ).loc main_arg0) := by
  funext i
  refine congrArg (m ((c : Thread nD τ).loc main_arg0)) (funext fun a => Fin.ext ?_)
  exact Pipeline.Window.rect_emb_val_of_index_zero win0_0 (0 : Fin 1) a (by revert a; decide +kernel) i
/-- The staged Wq is the argument. -/
theorem wqIn_eq (c : Dev nD) : wqIn m ρ c = m ((c : Thread nD τ).loc main_arg1) := by
  funext i
  refine congrArg (m ((c : Thread nD τ).loc main_arg1)) (funext fun a => Fin.ext ?_)
  exact Pipeline.Window.rect_emb_val_of_index_zero win0_1 (0 : Fin 1) a (by revert a; decide +kernel) i
/-- The staged Wo is the argument. -/
theorem woIn_eq (c : Dev nD) : woIn m ρ c = m ((c : Thread nD τ).loc main_arg4) := by
  funext i
  refine congrArg (m ((c : Thread nD τ).loc main_arg4)) (funext fun a => Fin.ext ?_)
  exact Pipeline.Window.rect_emb_val_of_index_zero win0_2 (0 : Fin 1) a (by revert a; decide +kernel) i
/-- The staged K is the argument's part on the device. -/
theorem kIn_eq (c : Dev nD) : kIn m ρ c = m ((c : Thread nD τ).loc main_arg2) := by
  funext i
  refine congrArg (m ((c : Thread nD τ).loc main_arg2)) (funext fun a => Fin.ext ?_)
  exact Pipeline.Window.rect_emb_val_of_index_zero win0_3 (0 : Fin 1) a (by revert a; decide +kernel) i
/-- The staged V is the argument's part on the device. -/
theorem vIn_eq (c : Dev nD) : vIn m ρ c = m ((c : Thread nD τ).loc main_arg3) := by
  funext i
  refine congrArg (m ((c : Thread nD τ).loc main_arg3)) (funext fun a => Fin.ext ?_)
  exact Pipeline.Window.rect_emb_val_of_index_zero win0_4 (0 : Fin 1) a (by revert a; decide +kernel) i

/-! ## The blocks the loops read -/

/-- The queries of head `h` of batch `b` are rows and lanes of all of them. -/
theorem read_q (f : (cc0_stg5_0 : Ref sig .tc).ty.Contents (Elt F)) (b : Fin 4) (h : Fin 8) (i : Fin 256) (d : Fin 128) :
    mO.view.readAt (Elt F) (Rect.unit (s := S1024x1024) ![b.val * 256, h.val * 128] S256x128.size (inbQ b h)).toLoadRect f (ValueIdx.ix2 i d)
      = f (ValueIdx.ix2 (row b i) (lane h d)) := by
  refine congrArg f (funext fun a => ?_)
  match a with
  | ⟨0, _⟩ => exact Fin.ext (by show b.val * 256 + 1 * i.val = _; rw [Nat.one_mul])
  | ⟨1, _⟩ => exact Fin.ext (by show h.val * 128 + 1 * d.val = _; rw [Nat.one_mul])

/-- The keys of group `g` of batch `b`. -/
theorem read_k (f : (cc0_stg3_0 : Ref sig .tc).ty.Contents (Elt F)) (b : Fin 4) (g : Fin 2) (t : Fin 1024) (d : Fin 128) :
    mK.view.readAt (Elt F) (Rect.unit (s := S4x1024x2x128) ![b.val, 0, g.val, 0] S1x1024x1x128.size (inbKV b g)).toLoadRect f (ValueIdx.ix4 0 t 0 d)
      = f (ValueIdx.ix4 b t g d) := by
  refine congrArg f (funext fun a => ?_)
  match a with
  | ⟨0, _⟩ => exact Fin.ext (by show b.val + 1 * 0 = b.val; omega)
  | ⟨1, _⟩ => exact Fin.ext (by show 0 + 1 * t.val = t.val; omega)
  | ⟨2, _⟩ => exact Fin.ext (by show g.val + 1 * 0 = g.val; omega)
  | ⟨3, _⟩ => exact Fin.ext (by show 0 + 1 * d.val = d.val; omega)

/-- The values of group `g` of batch `b`. -/
theorem read_v (f : (cc0_stg4_0 : Ref sig .tc).ty.Contents (Elt F)) (b : Fin 4) (g : Fin 2) (t : Fin 1024) (d : Fin 128) :
    mV.view.readAt (Elt F) (Rect.unit (s := S4x1024x2x128) ![b.val, 0, g.val, 0] S1x1024x1x128.size (inbKV b g)).toLoadRect f (ValueIdx.ix4 0 t 0 d)
      = f (ValueIdx.ix4 b t g d) := by
  refine congrArg f (funext fun a => ?_)
  match a with
  | ⟨0, _⟩ => exact Fin.ext (by show b.val + 1 * 0 = b.val; omega)
  | ⟨1, _⟩ => exact Fin.ext (by show 0 + 1 * t.val = t.val; omega)
  | ⟨2, _⟩ => exact Fin.ext (by show g.val + 1 * 0 = g.val; omega)
  | ⟨3, _⟩ => exact Fin.ext (by show 0 + 1 * d.val = d.val; omega)

end AnyFloats

/-! ## A device's share -/

section Share

variable (m : (ℓ : Loc nD τ sig) → Buf (Elt Ideal) ℓ) (ρ : Dev nD → PrngReg)

/-- The five arrays of device `c`. -/
abbrev xOf (c : Dev nD) : (⟨3, ![4, 256, 1024]⟩ : Shape).Idx → EReal := m ((c : Thread nD τ).loc main_arg0)
abbrev wqOf (c : Dev nD) : (⟨2, ![1024, 1024]⟩ : Shape).Idx → EReal := m ((c : Thread nD τ).loc main_arg1)
abbrev kOf (c : Dev nD) : (⟨4, ![4, 1024, 2, 128]⟩ : Shape).Idx → EReal := m ((c : Thread nD τ).loc main_arg2)
abbrev vOf (c : Dev nD) : (⟨4, ![4, 1024, 2, 128]⟩ : Shape).Idx → EReal := m ((c : Thread nD τ).loc main_arg3)
abbrev woOf (c : Dev nD) : (⟨2, ![1024, 1024]⟩ : Shape).Idx → EReal := m ((c : Thread nD τ).loc main_arg4)

/-- An entry of the queries. -/
theorem qBlk_at (c : Dev nD) (b : Fin 4) (h : Fin 8) (i : Fin 256) (d : Fin 128) :
    qBlk m ρ c b h (ValueIdx.ix2 i d) = query (xOf m c) (wqOf m c) b i h d := by
  unfold qBlk qAll
  rw [read_q, pay1_at, xIn_eq, wqIn_eq]
  unfold query
  refine Finset.sum_congr rfl fun k _ => congrArg (· * _) (congrArg (m ((c : Thread nD τ).loc main_arg0)) ?_)
  have hb : (⟨(row b i).val / 256, by omega⟩ : Fin 4) = b := Fin.ext (by show (b.val * 256 + i.val) / 256 = b.val; omega)
  have hi : (⟨(row b i).val % 256, by omega⟩ : Fin 256) = i := Fin.ext (by show (b.val * 256 + i.val) % 256 = i.val; omega)
  rw [hb, hi]

/-- An entry of the block of keys that the body loads for batch `b` and group `g`. -/
theorem kBlk_at (c : Dev nD) (b : Fin 4) (g : Fin 2) (t : Fin 1024) (d : Fin 128) :
    kBlk m ρ c b g (ValueIdx.ix2 t d) = kOf m c (ValueIdx.ix4 b t g d) := by
  unfold kBlk
  rw [pay2_at, read_k, kIn_eq]
/-- An entry of the block of values that the body loads for batch `b` and group `g`. -/
theorem vBlk_at (c : Dev nD) (b : Fin 4) (g : Fin 2) (t : Fin 1024) (d : Fin 128) :
    vBlk m ρ c b g (ValueIdx.ix2 t d) = vOf m c (ValueIdx.ix4 b t g d) := by
  unfold vBlk
  rw [pay3_at, read_v, vIn_eq]

/-- The exponential of a query's score against key `t` of device `c`. -/
def weight (c : Dev nD) (b : Fin 4) (i : Fin 256) (h : Fin 8) (t : Fin 1024) : EReal :=
  Ideal.exp (score (xOf m c) (wqOf m c) b i h fun d => kOf m c (ValueIdx.ix4 b t (grp h) d))

/-- The exponentials the body computes are the weights: exp of the scaled scores. -/
theorem pay11_weight (c : Dev nD) (b : Fin 4) (h : Fin 8) (i : Fin 256) (t : Fin 1024) :
    k0_pay11 (F := Ideal) (kBlk m ρ c b (grp h)) (qBlk m ρ c b h) (ValueIdx.ix2 i t) = weight m c b i h t := by
  rw [pay11_at]
  simp only [qBlk_at, kBlk_at]
  rfl

/-- A numerator over the keys of device `c`. -/
theorem numAt_at (c : Dev nD) (b : Fin 4) (h : Fin 8) (i : Fin 256) (d : Fin 128) :
    numAt m ρ c b h (ValueIdx.ix2 i d) = ∑ t : Fin 1024, weight m c b i h t * vOf m c (ValueIdx.ix4 b t (grp h) d) := by
  unfold numAt
  rw [pay12_at]
  simp only [pay11_weight, vBlk_at]

/-- A denominator over the keys of device `c`. -/
theorem denAt_at (c : Dev nD) (b : Fin 4) (h : Fin 8) (i : Fin 256) :
    denAt m ρ c b h (ValueIdx.ix2 i 0) = ∑ t : Fin 1024, weight m c b i h t := by
  unfold denAt
  rw [pay13_at]
  simp only [pay11_weight]

/-! ## The result -/

/-- The row of chunk `k` that is row `i` of batch `b`. -/
theorem row_split (b : Fin 4) (i : Fin 256) : (row b i).val / 32 < nD := by
  show (b.val * 256 + i.val) / 32 < 32; omega

/-- A numerator's sum over all devices. -/
theorem numC_at (b : Fin 4) (i : Fin 256) (k : Fin 1024) :
    numC (sumC m ρ ⟨(row b i).val / 32, row_split b i⟩) (ValueIdx.ix2 (n0 := 32) (n1 := 1024) ⟨(row b i).val % 32, by omega⟩ k)
      = ∑ c : Dev nD, ∑ t : Fin 1024, weight m c b i ⟨k.val / 128, by omega⟩ t
          * vOf m c (ValueIdx.ix4 b t ⟨k.val / 512, by omega⟩ ⟨k.val % 128, by omega⟩) := by
  unfold numC
  rw [sumC_at]
  refine Finset.sum_congr rfl fun c _ => ?_
  unfold locC
  rw [read_mAc]
  unfold locA
  rw [if_pos (show k.val < 1024 from k.isLt)]
  have hb : batchOf ⟨(row b i).val / 32 * 32 + (row b i).val % 32, by omega⟩ = b :=
    Fin.ext (by show ((b.val * 256 + i.val) / 32 * 32 + (b.val * 256 + i.val) % 32) / 256 = b.val; omega)
  have hi : (⟨((row b i).val / 32 * 32 + (row b i).val % 32) % 256, by omega⟩ : Fin 256) = i :=
    Fin.ext (by show ((b.val * 256 + i.val) / 32 * 32 + (b.val * 256 + i.val) % 32) % 256 = i.val; omega)
  have hh : headOf k.val = ⟨k.val / 128, by omega⟩ := dif_pos k.isLt
  have hg : (⟨k.val / 512, by omega⟩ : Fin 2) = grp ⟨k.val / 128, by omega⟩ := Fin.ext (by show k.val / 512 = k.val / 128 / 4; omega)
  show numAt m ρ c (batchOf ⟨(row b i).val / 32 * 32 + (row b i).val % 32, _⟩) (headOf k.val)
    (ValueIdx.ix2 ⟨((row b i).val / 32 * 32 + (row b i).val % 32) % 256, _⟩ ⟨k.val % 128, _⟩) = _
  rw [hb, hi, hh, numAt_at, hg]

/-- A denominator's sum over all devices. -/
theorem denC_at (b : Fin 4) (i : Fin 256) (h : Fin 8) :
    denC (sumC m ρ ⟨(row b i).val / 32, row_split b i⟩) (ValueIdx.ix2 (n0 := 32) (n1 := 8) ⟨(row b i).val % 32, by omega⟩ h)
      = ∑ c : Dev nD, ∑ t : Fin 1024, weight m c b i h t := by
  unfold denC
  rw [sumC_at]
  refine Finset.sum_congr rfl fun c _ => ?_
  unfold locC
  rw [read_mAc]
  unfold locA
  rw [if_neg (show ¬ 1024 + h.val < 1024 by omega)]
  have hb : batchOf ⟨(row b i).val / 32 * 32 + (row b i).val % 32, by omega⟩ = b :=
    Fin.ext (by show ((b.val * 256 + i.val) / 32 * 32 + (b.val * 256 + i.val) % 32) / 256 = b.val; omega)
  have hi : (⟨((row b i).val / 32 * 32 + (row b i).val % 32) % 256, by omega⟩ : Fin 256) = i :=
    Fin.ext (by show ((b.val * 256 + i.val) / 32 * 32 + (b.val * 256 + i.val) % 32) % 256 = i.val; omega)
  have hh : headOf (1024 + h.val) = h := (dif_neg (by omega)).trans (Fin.ext (by show (1024 + h.val - 1024) % 8 = h.val; omega))
  show denAt m ρ c (batchOf ⟨(row b i).val / 32 * 32 + (row b i).val % 32, _⟩) (headOf (1024 + h.val))
    (ValueIdx.ix2 ⟨((row b i).val / 32 * 32 + (row b i).val % 32) % 256, _⟩ 0) = _
  rw [hb, hi, hh, denAt_at]

/-- The kernel's result, entry by entry: the attention over all devices' keys, with the exponentials as they are. -/
theorem outAll_at (b : Fin 4) (i : Fin 256) (j : Fin 1024) :
    outAll m ρ (ValueIdx.ix2 (row b i) j)
      = ∑ k : Fin 1024,
          ((∑ c : Dev nD, ∑ t : Fin 1024, weight m c b i ⟨k.val / 128, by omega⟩ t
              * vOf m c (ValueIdx.ix4 b t ⟨k.val / 512, by omega⟩ ⟨k.val % 128, by omega⟩))
            * Ideal.div 1 (∑ c : Dev nD, ∑ t : Fin 1024, weight m c b i ⟨k.val / 128, by omega⟩ t))
          * woOf m ⟨(row b i).val / 32, row_split b i⟩ (ValueIdx.ix2 k j) := by
  show outRows m ρ ⟨(row b i).val / 32, row_split b i⟩ (ValueIdx.ix2 (n0 := 32) (n1 := 1024) ⟨(row b i).val % 32, _⟩ j) = _
  unfold outRows
  rw [rowsVal_at]
  refine Finset.sum_congr rfl fun k _ => ?_
  rw [numC_at, denC_at, woIn_eq]

end Share

end Attn
end
-- ==== Proof.RefValue.lean ====
/-
  The reference's value, entry by entry: with finite queries and keys it is the attention of Softmax.lean over all
  32768 keys. -/
module

public import proofs.«01_k».proof.Proof.Gen.ReferenceIdeal.Read
public import proofs.«01_k».proof.Proof.Softmax

@[expose] public section

noncomputable section

namespace Attn

open Cert.ReferenceIdeal Cert.ReferenceIdeal.Gen Cert.ReferenceIdeal.Read
open Idealize.ShloMosaic
open Idealize.ShloMosaic.ValueIdx

variable (x0 : (⟨S4x256x1024, .f32⟩ : BufTy).Contents (Elt Ideal)) (x1 x4 : (⟨S1024x1024, .f32⟩ : BufTy).Contents (Elt Ideal))
  (x2 x3 : (⟨S4x32768x2x128, .f32⟩ : BufTy).Contents (Elt Ideal))

/-- Key `t` of a group of a batch. -/
def keyOf (x : (⟨S4x32768x2x128, .f32⟩ : BufTy).Contents (Elt Ideal)) (b : Fin 4) (g : Fin 2) (t : Fin 32768) (d : Fin 128) : EReal :=
  x (ix4 b t g d)

/-- The group of a head. -/
abbrev group (h : Fin 8) : Fin 2 := ⟨h.val / 4, by omega⟩

/-- The queries. -/
theorem ref_query (b : Fin 4) (i : Fin 256) (h : Fin 8) (d : Fin 128) :
    val_main_v1 (F := Ideal) x0 x1 (ix4 b i h d) = query x0 x1 b i h d := by
  rw [val_main_v1_apply, val_main_v0_apply]
  have h0 := b.isLt; have h1 := i.isLt; have h2 := h.isLt; have h3 := d.isLt
  refine Finset.sum_congr rfl fun k _ => congrArg₂ (· * ·) (congrArg x0 (funext fun a => ?_)) (congrArg x1 (funext fun a => ?_))
  · match a with
    | ⟨0, _⟩ => exact Fin.ext (by show (((b.val * 256 + i.val) * 8 + h.val) * 128 + d.val) / 262144 = b.val; omega)
    | ⟨1, _⟩ => exact Fin.ext (by show (((b.val * 256 + i.val) * 8 + h.val) * 128 + d.val) / 1024 % 256 = i.val; omega)
    | ⟨2, _⟩ => rfl
  · match a with
    | ⟨0, _⟩ => rfl
    | ⟨1, _⟩ => exact Fin.ext (by show (((b.val * 256 + i.val) * 8 + h.val) * 128 + d.val) % 1024 = h.val * 128 + d.val; omega)

/-- The keys, each head reading its group's. -/
theorem ref_key (b : Fin 4) (t : Fin 32768) (h : Fin 8) (d : Fin 128) :
    val_main_v3 (F := Ideal) x2 (ix4 b t h d) = keyOf x2 b (group h) t d := by
  rw [val_main_v3_apply, val_main_v2_apply]
  have h0 := b.isLt; have h1 := t.isLt; have h2 := h.isLt; have h3 := d.isLt
  refine congrArg x2 (funext fun a => ?_)
  match a with
  | ⟨0, _⟩ => exact Fin.ext (by show (((b.val * 32768 + t.val) * 8 + h.val) * 128 + d.val) / 33554432 = b.val; omega)
  | ⟨1, _⟩ => exact Fin.ext (by show (((b.val * 32768 + t.val) * 8 + h.val) * 128 + d.val) / 1024 % 32768 = t.val; omega)
  | ⟨2, _⟩ => exact Fin.ext (by show (((b.val * 32768 + t.val) * 8 + h.val) * 128 + d.val) / 512 % 2 = h.val / 4; omega)
  | ⟨3, _⟩ => exact Fin.ext (by show (((b.val * 32768 + t.val) * 8 + h.val) * 128 + d.val) % 128 = d.val; omega)

/-- The values, each head reading its group's. -/
theorem ref_val (b : Fin 4) (t : Fin 32768) (h : Fin 8) (d : Fin 128) :
    val_main_v5 (F := Ideal) x3 (ix4 b t h d) = keyOf x3 b (group h) t d := by
  rw [val_main_v5_apply, val_main_v4_apply]
  have h0 := b.isLt; have h1 := t.isLt; have h2 := h.isLt; have h3 := d.isLt
  refine congrArg x3 (funext fun a => ?_)
  match a with
  | ⟨0, _⟩ => exact Fin.ext (by show (((b.val * 32768 + t.val) * 8 + h.val) * 128 + d.val) / 33554432 = b.val; omega)
  | ⟨1, _⟩ => exact Fin.ext (by show (((b.val * 32768 + t.val) * 8 + h.val) * 128 + d.val) / 1024 % 32768 = t.val; omega)
  | ⟨2, _⟩ => exact Fin.ext (by show (((b.val * 32768 + t.val) * 8 + h.val) * 128 + d.val) / 512 % 2 = h.val / 4; omega)
  | ⟨3, _⟩ => exact Fin.ext (by show (((b.val * 32768 + t.val) * 8 + h.val) * 128 + d.val) % 128 = d.val; omega)

/-- The scores. -/
theorem ref_score (b : Fin 4) (h : Fin 8) (i : Fin 256) (t : Fin 32768) :
    val_main_v8 (F := Ideal) x0 x1 x2 (ix4 b h i t) = score x0 x1 b i h (keyOf x2 b (group h) t) := by
  rw [val_main_v8_apply, val_main_v6_apply, val_main_v7_apply]
  unfold score
  refine congrArg₂ (· * ·) (Finset.sum_congr rfl fun d _ => congrArg₂ (· * ·) ?_ ?_) rfl
  · rw [← ref_query]
    exact congrArg _ (funext fun a => by match a with | ⟨0, _⟩ => rfl | ⟨1, _⟩ => rfl | ⟨2, _⟩ => rfl | ⟨3, _⟩ => rfl)
  · rw [← ref_key]
    exact congrArg _ (funext fun a => by match a with | ⟨0, _⟩ => rfl | ⟨1, _⟩ => rfl | ⟨2, _⟩ => rfl | ⟨3, _⟩ => rfl)

/-- A row's maximum, as the reference's reduction has it. -/
abbrev ref_max (b : Fin 4) (h : Fin 8) (i : Fin 256) : EReal := val_main_v9 (F := Ideal) x0 x1 x2 (ix3 b h i)

/-- The exponentials of the shifted scores. -/
theorem ref_exp (b : Fin 4) (h : Fin 8) (i : Fin 256) (t : Fin 32768) :
    val_main_v13 (F := Ideal) x0 x1 x2 (ix4 b h i t)
      = Ideal.exp (score x0 x1 b i h (keyOf x2 b (group h) t) - ref_max x0 x1 x2 b h i) := by
  rw [val_main_v13_apply, val_main_v12_apply, ref_score, val_main_v11_apply, val_main_v10_apply]
  refine congrArg (fun z => Ideal.exp (score x0 x1 b i h (keyOf x2 b (group h) t) - z)) (congrArg _ (funext fun a => ?_))
  match a with | ⟨0, _⟩ => rfl | ⟨1, _⟩ => rfl | ⟨2, _⟩ => rfl

/-- With finite scores the row's maximum is finite. -/
theorem ref_max_real (b : Fin 4) (h : Fin 8) (i : Fin 256)
    (hs : ∀ t, IsReal (val_main_v8 (F := Ideal) x0 x1 x2 (ix4 b h i t))) : IsReal (ref_max x0 x1 x2 b h i) := by
  unfold ref_max val_main_v9
  have hr : S4x8x256x32768.Reduces [3] S4x8x256 := ⟨reducesTo_S4x8x256x32768_S4x8x256_d3.1, (by decide : 0 < S4x8x256.rank), reducesTo_S4x8x256x32768_S4x8x256_d3.2⟩
  rw [Host.reduce_eq_fold_single FloatOps.maximumf _ _ reducesTo_S4x8x256x32768_S4x8x256_d3 hr h_S_]
  have e : (val_main_cst_0 (F := Ideal)) (Shape.Idx.first h_S_) = ⊥ := by
    show Ideal.ofBits .f32 0xFF800000#32 = ⊥
    simp [Ideal.ofBits, Ideal.ieee]
  rw [e]
  refine IsReal.fold_max _ _ (fun t => ?_) ⟨⟨0, by decide⟩, Finset.mem_univ _⟩
  refine (congrArg (fun p => IsReal (val_main_v8 (F := Ideal) x0 x1 x2 p)) (funext fun a => ?_)).mp (hs t)
  match a with | ⟨0, _⟩ => rfl | ⟨1, _⟩ => rfl | ⟨2, _⟩ => rfl | ⟨3, _⟩ => rfl

/-- The sum of a row's exponentials. -/
theorem ref_den (b : Fin 4) (h : Fin 8) (i : Fin 256) :
    val_main_v14 (F := Ideal) x0 x1 x2 (ix3 b h i)
      = ∑ t : Fin 32768, Ideal.exp (score x0 x1 b i h (keyOf x2 b (group h) t) - ref_max x0 x1 x2 b h i) := by
  rw [val_main_v14_apply]
  rw [show (val_main_cst_1 (F := Ideal)) (Shape.Idx.first h_S_) = 0 from Ideal.ofBits_zero_f32, zero_add]
  refine Finset.sum_congr rfl fun t _ => ?_
  rw [← ref_exp]
  exact congrArg _ (funext fun a => by match a with | ⟨0, _⟩ => rfl | ⟨1, _⟩ => rfl | ⟨2, _⟩ => rfl | ⟨3, _⟩ => rfl)

/-- The weighted sum of the values. -/
theorem ref_num (b : Fin 4) (h : Fin 8) (d : Fin 128) (i : Fin 256) :
    val_main_v16 (F := Ideal) x0 x1 x2 x3 (ix4 b h d i)
      = ∑ t : Fin 32768, keyOf x3 b (group h) t d * Ideal.exp (score x0 x1 b i h (keyOf x2 b (group h) t) - ref_max x0 x1 x2 b h i) := by
  rw [val_main_v16_apply]
  refine Finset.sum_congr rfl fun t _ => congrArg₂ (· * ·) ?_ ?_
  · rw [← ref_val]
    exact congrArg _ (funext fun a => by match a with | ⟨0, _⟩ => rfl | ⟨1, _⟩ => rfl | ⟨2, _⟩ => rfl | ⟨3, _⟩ => rfl)
  · rw [← ref_exp]
    exact congrArg _ (funext fun a => by match a with | ⟨0, _⟩ => rfl | ⟨1, _⟩ => rfl | ⟨2, _⟩ => rfl | ⟨3, _⟩ => rfl)

/-- The normalised rows. -/
theorem ref_rows (b : Fin 4) (i : Fin 256) (h : Fin 8) (d : Fin 128) :
    val_main_v20 (F := Ideal) x0 x1 x2 x3 (ix4 b i h d)
      = Ideal.div (val_main_v16 (F := Ideal) x0 x1 x2 x3 (ix4 b h d i)) (val_main_v14 (F := Ideal) x0 x1 x2 (ix3 b h i)) := by
  rw [val_main_v20_apply, val_main_v17_apply, val_main_v19_apply, val_main_v18_apply, val_main_v15_apply]
  refine congrArg₂ Ideal.div (congrArg _ (funext fun a => ?_)) (congrArg _ (funext fun a => ?_))
  · match a with | ⟨0, _⟩ => rfl | ⟨1, _⟩ => rfl | ⟨2, _⟩ => rfl | ⟨3, _⟩ => rfl
  · match a with | ⟨0, _⟩ => rfl | ⟨1, _⟩ => rfl | ⟨2, _⟩ => rfl

/-- The reference's result is the attention over all keys, when the inputs that make the scores are finite. -/
theorem ref_value (hx : ∀ i, IsReal (x0 i)) (hw : ∀ i, IsReal (x1 i)) (hk : ∀ i, IsReal (x2 i)) (b : Fin 4) (i : Fin 256) (j : Fin 1024) :
    val_main_v22 (F := Ideal) x0 x1 x2 x3 x4 (ix2 (row b i) j) = attention x0 x1 x4 (keyOf x2) (keyOf x3) b i j := by
  rw [val_main_v22_apply]
  have h0 := b.isLt; have h1 := i.isLt
  refine Finset.sum_congr rfl fun k _ => congrArg₂ (· * ·) ?_ (congrArg x4 (funext fun a => by match a with | ⟨0, _⟩ => rfl | ⟨1, _⟩ => rfl))
  have h2 := k.isLt
  have e : val_main_v21 (F := Ideal) x0 x1 x2 x3 (lidx_main_v22 (ix2 (row b i) j) k)
      = val_main_v20 (F := Ideal) x0 x1 x2 x3 (ix4 b i ⟨k.val / 128, by omega⟩ ⟨k.val % 128, by omega⟩) := by
    rw [val_main_v21_apply]
    refine congrArg _ (funext fun a => ?_)
    match a with
    | ⟨0, _⟩ => exact Fin.ext (by show ((b.val * 256 + i.val) * 1024 + k.val) / 262144 = b.val; omega)
    | ⟨1, _⟩ => exact Fin.ext (by show ((b.val * 256 + i.val) * 1024 + k.val) / 1024 % 256 = i.val; omega)
    | ⟨2, _⟩ => exact Fin.ext (by show ((b.val * 256 + i.val) * 1024 + k.val) / 128 % 8 = k.val / 128; omega)
    | ⟨3, _⟩ => exact Fin.ext (by show ((b.val * 256 + i.val) * 1024 + k.val) % 128 = k.val % 128; omega)
  have hs : ∀ t, IsReal (score x0 x1 b i ⟨k.val / 128, by omega⟩ (keyOf x2 b (group ⟨k.val / 128, by omega⟩) t)) :=
    fun t => score_real hx hw _ _ _ fun d => hk _
  rw [e, ref_rows, ref_num, ref_den, row_eq _ _ hs _ (ref_max_real x0 x1 x2 b _ i fun t => by rw [ref_score]; exact hs t)]
  have hg : group ⟨k.val / 128, by omega⟩ = ⟨k.val / 512, by omega⟩ := Fin.ext (by show k.val / 128 / 4 = k.val / 512; omega)
  rw [hg]

end Attn

end
-- ==== Proof.Equal.lean ====
/-
  The kernel's result is the reference's: the devices' keys, one device after the other, are all the keys, and with finite
  queries and keys nothing is lost by subtracting a row's maximum first. -/
module

public import proofs.«01_k».proof.Defs
public import proofs.«01_k».proof.Proof.OutValue
public import proofs.«01_k».proof.Proof.RefValue

@[expose] public section

noncomputable section

namespace Attn

open Cert.KernelIdeal Cert.KernelIdeal.Gen
open Idealize.ShloMosaic
open Idealize.ShloMosaic.TcCoe

/-- A number whose absolute value is below infinity is finite. -/
theorem real_of_abs_lt (a : EReal) (h : BitVec.ofBool (decide (max a (-a) < Ideal.ofBits .f32 0x7F800000#32)) = 1#1) : IsReal a := by
  have hb : ∀ b : Bool, BitVec.ofBool b = 1#1 → b = true := by decide
  have hlt := of_decide_eq_true (hb _ h)
  rw [show Ideal.ofBits .f32 0x7F800000#32 = ⊤ by simp [Ideal.ofBits, Ideal.ieee]] at hlt
  have h1 : a ≠ ⊤ := fun e => absurd (lt_of_le_of_lt (le_max_left _ _) hlt) (by rw [e]; exact lt_irrefl _)
  have h2 : a ≠ ⊥ := fun e => absurd (lt_of_le_of_lt (le_max_right _ _) hlt) (by rw [e, EReal.neg_bot]; exact lt_irrefl _)
  exact ⟨a.toReal, (EReal.coe_toReal h1 h2).symm⟩

section Finite

variable [Cert.Pre_finite_KernelIdeal.Facts] (m : (ℓ : Loc nD τ sig) → Buf (Elt Ideal) ℓ) (h : Cert.Pre_KernelIdeal_finite_KernelIdeal m)
include h

/-- Under the precondition a device's inputs, projection and keys are finite. -/
theorem x_real (c : Dev nD) (i) : IsReal (xOf m c i) := real_of_abs_lt _ (congrFun (h c).1 i)
/-- Under the precondition every entry of Wq is a real number. -/
theorem wq_real (c : Dev nD) (i) : IsReal (wqOf m c i) := real_of_abs_lt _ (congrFun (h c).2.1 i)
/-- Under the precondition every entry of K is a real number. -/
theorem k_real (c : Dev nD) (i) : IsReal (kOf m c i) := real_of_abs_lt _ (congrFun (h c).2.2 i)

end Finite

/-- Key `t` of device `c`'s block is key `c * 1024 + t` of all. -/
theorem block_at (x : (⟨4, ![4, 32768, 2, 128]⟩ : Shape).Idx → EReal) (c : Dev nD) (b : Fin 4) (t : Fin 1024) (g : Fin 2) (d : Fin 128) :
    Layout.block ⟨4, ![4, 1024, 2, 128]⟩ ⟨4, ![4, 32768, 2, 128]⟩ 1 32 c x (by decide) (ValueIdx.ix4 b t g d)
      = x (ValueIdx.ix4 b ⟨c.val * 1024 + t.val, by have := c.isLt; simp only [show nD = 32 from rfl] at this; omega⟩ g d) := by
  rw [Layout.block_apply]
  refine congrArg x (funext fun a => Fin.ext ?_)
  rw [Layout.Tiles.idx_val]
  match a with
  | ⟨0, _⟩ => rfl
  | ⟨1, _⟩ => rfl
  | ⟨2, _⟩ => rfl
  | ⟨3, _⟩ => rfl

/-- Summing over each device's keys and then over the devices is summing over all the keys. -/
theorem sum_devices (f : Fin 32768 → EReal) :
    ∑ c : Dev nD, ∑ t : Fin 1024, f ⟨c.val * 1024 + t.val, by have := c.isLt; simp only [show nD = 32 from rfl] at this; omega⟩ = ∑ t : Fin 32768, f t :=
  Fin.sum_mul_add_fin 32 1024 f (by decide)

section Equal

variable (m : (ℓ : Loc nD τ sig) → Buf (Elt Ideal) ℓ) (ρ : Dev nD → PrngReg)
  (x0 : (⟨3, ![4, 256, 1024]⟩ : Shape).Idx → EReal) (x1 x4 : (⟨2, ![1024, 1024]⟩ : Shape).Idx → EReal)
  (x2 x3 : (⟨4, ![4, 32768, 2, 128]⟩ : Shape).Idx → EReal)
  (hin : ∀ c : Dev nD, xOf m c = x0 ∧ wqOf m c = x1
    ∧ kOf m c = Layout.block ⟨4, ![4, 1024, 2, 128]⟩ ⟨4, ![4, 32768, 2, 128]⟩ 1 32 c x2
    ∧ vOf m c = Layout.block ⟨4, ![4, 1024, 2, 128]⟩ ⟨4, ![4, 32768, 2, 128]⟩ 1 32 c x3 ∧ woOf m c = x4)
include hin

/-- The kernel's result as attention over all the keys. -/
theorem out_attention (b : Fin 4) (i : Fin 256) (j : Fin 1024) :
    outAll m ρ (ValueIdx.ix2 (row b i) j) = attention x0 x1 x4 (keyOf x2) (keyOf x3) b i j := by
  have hw : ∀ (c : Dev nD) (h : Fin 8) (t : Fin 1024), weight m c b i h t
      = Ideal.exp (score x0 x1 b i h (keyOf x2 b (grp h) ⟨c.val * 1024 + t.val, by have := c.isLt; simp only [show nD = 32 from rfl] at this; omega⟩)) := by
    intro c h t
    unfold weight
    rw [(hin c).1, (hin c).2.1, (hin c).2.2.1]
    refine congrArg (fun k => Ideal.exp (score x0 x1 b i h k)) (funext fun d => ?_)
    exact block_at x2 c b t (grp h) d
  refine Eq.trans (α := EReal) (outAll_at m ρ b i j) ?_
  unfold attention
  refine Finset.sum_congr rfl fun k _ => ?_
  have hg : (⟨k.val / 512, by omega⟩ : Fin 2) = grp ⟨k.val / 128, by omega⟩ := Fin.ext (by show k.val / 512 = k.val / 128 / 4; omega)
  rw [(hin _).2.2.2.2, hg]
  refine congrArg (· * _) (congrArg₂ (fun n l => n * Ideal.div 1 l) ?_ ?_)
  · rw [← sum_devices]
    refine Finset.sum_congr rfl fun c _ => Finset.sum_congr rfl fun t _ => ?_
    rw [hw, (hin c).2.2.2.1, block_at]
    rfl
  · rw [← sum_devices]
    refine Finset.sum_congr rfl fun c _ => Finset.sum_congr rfl fun t _ => hw c _ t

/-- With finite inputs the kernel's result is the reference's. -/
theorem out_eq [Cert.Pre_finite_KernelIdeal.Facts] (h : Cert.Pre_KernelIdeal_finite_KernelIdeal m) :
    outAll m ρ = Cert.ReferenceIdeal.Read.val_main_v22 (F := Ideal) x0 x1 x2 x3 x4 := by
  have hx : ∀ i, IsReal (x0 i) := fun i => (hin 0).1 ▸ x_real m h 0 i
  have hq : ∀ i, IsReal (x1 i) := fun i => (hin 0).2.1 ▸ wq_real m h 0 i
  have hk : ∀ i, IsReal (x2 i) := by
    intro p
    have h1 : (p 1).val < 32768 := (p 1).isLt
    have hp : ValueIdx.ix4 (n0 := 4) (n1 := 32768) (n2 := 2) (n3 := 128) (p 0) ⟨(p 1).val / 1024 * 1024 + (p 1).val % 1024, by omega⟩ (p 2) (p 3) = p := by
      funext a
      match a with
      | ⟨0, _⟩ => rfl
      | ⟨1, _⟩ => exact Fin.ext (by show (p 1).val / 1024 * 1024 + (p 1).val % 1024 = (p 1).val; omega)
      | ⟨2, _⟩ => rfl
      | ⟨3, _⟩ => rfl
    have e := block_at x2 ⟨(p 1).val / 1024, by show _ < 32; omega⟩ (p 0) ⟨(p 1).val % 1024, by omega⟩ (p 2) (p 3)
    rw [← hp, ← e, ← (hin _).2.2.1]
    exact k_real m h _ _
  funext p
  have h0 := ValueIdx.idx2_lt0 p
  have hp : ValueIdx.ix2 (n0 := 1024) (n1 := 1024) (row ⟨(p 0).val / 256, by omega⟩ ⟨(p 0).val % 256, by omega⟩) (p 1) = p := by
    funext a
    match a with
    | ⟨0, _⟩ => exact Fin.ext (by show (p 0).val / 256 * 256 + (p 0).val % 256 = (p 0).val; omega)
    | ⟨1, _⟩ => rfl
  refine (congrArg (outAll m ρ) hp.symm).trans ((?_ : _ = _).trans (congrArg (Cert.ReferenceIdeal.Read.val_main_v22 (F := Ideal) x0 x1 x2 x3 x4) hp))
  exact (out_attention m ρ x0 x1 x4 x2 x3 hin _ _ _).trans (ref_value x0 x1 x4 x2 x3 hx hq hk _ _ _).symm

end Equal

end Attn
end
-- ==== Proof.lean ====
/- The claims of the attention kernel: its frame over the machine's floats and over the reals, the reference's frame,
   and the equality of their results over the reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Equal
public import Idealize.ShloMosaic.Adequacy
public import Idealize.ShloMosaic.Init

@[expose] public section

noncomputable section

namespace Cert.Proof

open Idealize.ShloMosaic Idealize.ShloMosaic.TcCoe Idealize.SL.Sem

/-- Nothing was rewritten: the two readings have the same bodies. -/
theorem same_defs : Cert.Kernel.defs (F := Bits) = Cert.KernelIdeal.defs (F := Bits) := by chain_rfl

/-- Over the machine's floats the kernel ends, its arguments unchanged and its counters at zero. -/
theorem frame_kernel : Cert.quiescent_Kernel := by
  intro m ρ _
  rw [same_defs]
  have h := (θ_run Cert.KernelIdeal.defs _ _).mono (fun _ h => (⟨fun c => (h.1 c).2, h.2⟩ : (∀ c, _) ∧ _)) (Attn.run_arrays (F := Bits) m ρ)
  exact h

/-- So it does over the reals. -/
theorem frame_kernelIdeal : Cert.quiescent_KernelIdeal := fun m ρ _ =>
  (θ_run Cert.KernelIdeal.defs _ _).mono (fun _ h => ⟨fun c => (h.1 c).2, h.2⟩) (Attn.run_arrays (F := Ideal) m ρ)

/-- The reference ends with its arguments unchanged; it has no counters. -/
theorem frame_referenceIdeal : Cert.quiescent_ReferenceIdeal := fun m ρ _ =>
  (θ_run Cert.ReferenceIdeal.defs _ _).mono (fun _ h => ⟨fun c => (h c).2, funext fun x => by
    obtain ⟨_, sm⟩ := x; rcases sm with s | s <;> exact s.elim0⟩) (Cert.ReferenceIdeal.Value.run (F := Ideal) m ρ)

/-- The shape relations of the precondition, as a device takes it. -/
theorem facts_device : Cert.Pre_finite_KernelIdeal.Facts := ⟨by decide, by decide, by decide⟩
/-- The shape relations of the precondition, as the reference takes it. -/
theorem facts_whole : Cert.Pre_finite_ReferenceIdeal.Facts := ⟨by decide, by decide, by decide⟩

/-- Over the reals, from finite inputs, projections and keys, every device ends with the reference's result. -/
theorem algebraic [Cert.Pre_finite_KernelIdeal.Facts] : Cert.algebraic_KernelIdeal_ReferenceIdeal_pre_finite_KernelIdeal := by
  intro m ρ m' ρ' hpre hin
  have hv := Attn.out_eq m ρ _ _ _ _ _ hin hpre
  refine ⟨_, (θ_run Cert.KernelIdeal.defs _ _).mono (fun _ h c => ⟨(h.1 c).1.trans hv, (h.1 c).2⟩) (Attn.run_arrays (F := Ideal) m ρ), ?_⟩
  exact (θ_run Cert.ReferenceIdeal.defs _ _).mono (fun _ h => ⟨(h 0).1.trans (Cert.ReferenceIdeal.Read.val_main_v22_eq _ _ _ _ _), (h 0).2⟩)
    (Cert.ReferenceIdeal.Value.run (F := Ideal) m' ρ')

/-- All the claims. The frames that come with the precondition hold without it. -/
theorem claim : Cert.Claim :=
  ⟨Cert.Kernel.Gen.facts, Cert.KernelIdeal.Gen.facts, Cert.ReferenceIdeal.Gen.facts, facts_device, facts_whole,
    frame_kernel, frame_kernelIdeal, fun m ρ _ => frame_kernelIdeal m ρ trivial,
    frame_referenceIdeal, fun m ρ _ => frame_referenceIdeal m ρ trivial, trivial, @algebraic facts_device⟩

end Cert.Proof

end
